-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_pre_finite [hKernelIdeal : Cert.KernelIdeal.Facts] [hPre_finite : Cert.Pre_finite.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0_0)) (r.2.mem ((c.tc : Thread Cert.KernelIdeal.nD Cert.KernelIdeal.τ).loc Cert.KernelIdeal.main_v0_1))) = (fun _ => 1#1))

def Claim : Prop :=
  ∃ (hKernel : Cert.Kernel.Facts) (hKernelIdeal : Cert.KernelIdeal.Facts) (hReferenceIdeal : Cert.ReferenceIdeal.Facts) (hPre_finite : Cert.Pre_finite.Facts) (hPost_near : Cert.Post_near.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ holds_KernelIdeal_near_pre_finite (hKernelIdeal := hKernelIdeal) (hPre_finite := hPre_finite) (hPost_near := hPost_near)
-- ==== Post_near.lean ====
abbrev S2x4096x4096 : Shape := ⟨3, ![2, 4096, 4096]⟩
abbrev S64x4096 : Shape := ⟨2, ![64, 4096]⟩
abbrev S8192x8 : Shape := ⟨2, ![8192, 8]⟩
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩

class Facts : Prop where
  shapeCasts_S2x4096x4096_S8192x4096 : S2x4096x4096.ShapeCasts S8192x4096
  transposes_S64x4096_S4096x64_1_0 : S64x4096.Transposes [1, 0] S4096x64
  reducesTo_S8192x64_S8192_d1 : S8192x64.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x64_0_1 : S8192x1.BroadcastsInDim S8192x64 (![0, 1] : Fin 2 → Fin S8192x64.rank)
  sliceFits_S8192x64_S8192x8 : S8192x64.Slices (fun _ => 0) S8192x8
  reducesTo_S8192x8_S8192_d1 : S8192x8.ReducesTo [1] S8192
  bcast_S_S8192x1 : S_.BroadcastsInDim S8192x1 (![] : Fin 0 → Fin S8192x1.rank)
  bcast_S8192x1_S8192x8_0_1 : S8192x1.BroadcastsInDim S8192x8 (![0, 1] : Fin 2 → Fin S8192x8.rank)
  reducesTo_S8192x8_S_d0_1 : S8192x8.ReducesTo [0, 1] S_
  bcast_S_S8192x8 : S_.BroadcastsInDim S8192x8 (![] : Fin 0 → Fin S8192x8.rank)
  dot_S8192x4096_S4096x64_S8192x64_1_0_0_1_n_n_wf : DotDims.WF S8192x4096 S4096x64 S8192x64 [1] [0] [0] [1] [] []

variable [Facts]

def dot_S8192x4096_S4096x64_S8192x64_1_0_0_1_n_n : DotDims S8192x4096 S4096x64 S8192x64 where
  lhsContracting := [1]
  rhsContracting := [0]
  lhsNonContracting := [0]
  rhsNonContracting := [1]
  lhsBatch := []
  rhsBatch := []
  wf := dot_S8192x4096_S4096x64_S8192x64_1_0_0_1_n_n_wf
def fn_part1 {F : FTy → Type} [FloatOps F] (main_arg2 : IVec S8192x8 32) (main_arg3 : FVec F S8192x8 .f32) (main_values : FVec F S8192x8 .f32) (main_indices : IVec S8192x8 32) (main_v15 : FVec F S8192x1 .f32) (main_v16 : FVec F S8192x1 .f32) : IVec S_ 1 :=
  let main_v17 : FVec F S8192x1 .f32 := addf main_v15 main_v16
  let main_v18 : FVec F S8192x8 .f32 := broadcastInDim S8192x8 ![0, 1] bcast_S8192x1_S8192x8_0_1 main_v17
  let main_v19 : FVec F S8192x8 .f32 := Host.divf main_values main_v18
  let main_v20 : IVec S8192x8 1 := cmpi .eq main_arg2 main_indices
  let main_c : IVec S_ 1 := constantI S_ 1 1#1
  let main_v21 : IVec S_ 1 := (fun x v => Host.reduce IntOp.andi x v reducesTo_S8192x8_S_d0_1 h_S_) main_v20 main_c
  let main_v22 : FVec F S8192x8 .f32 := subf main_arg3 main_v19
  let main_v23 : FVec F S8192x8 .f32 := Host.absf main_v22
  let main_cst_4 : FVec F S_ .f32 := constant S_ .f32 0x219392EF#32
  let main_v24 : FVec F S8192x8 .f32 := broadcastInDim S8192x8 ![] bcast_S_S8192x8 main_cst_4
  let main_v25 : IVec S8192x8 1 := cmpf .ole main_v23 main_v24
  let main_c_5 : IVec S_ 1 := constantI S_ 1 1#1
  let main_v26 : IVec S_ 1 := (fun x v => Host.reduce IntOp.andi x v reducesTo_S8192x8_S_d0_1 h_S_) main_v25 main_c_5
  let main_v27 : IVec S_ 1 := andi main_v21 main_v26
  main_v27

def fn {F : FTy → Type} [FloatOps F] (main_arg0 : FVec F S2x4096x4096 .f32) (main_arg1 : FVec F S64x4096 .f32) (main_arg2 : IVec S8192x8 32) (main_arg3 : FVec F S8192x8 .f32) : IVec S_ 1 :=
  let main_v0 : FVec F S8192x4096 .f32 := shapeCast S8192x4096 main_arg0 shapeCasts_S2x4096x4096_S8192x4096
  let main_v1 : FVec F S4096x64 .f32 := (transpose S4096x64 [1, 0] · transposes_S64x4096_S4096x64_1_0) main_arg1
  let main_v2 : FVec F S8192x64 .f32 := (fun l r => Host.dotGeneral dot_S8192x4096_S4096x64_S8192x64_1_0_0_1_n_n none l r) main_v0 main_v1
  let main_cst : FVec F S_ .f32 := constant S_ .f32 0xFF800000#32
  let main_v3 : FVec F S8192 .f32 := (fun x v => Host.reduce FloatOps.maximumf x v reducesTo_S8192x64_S8192_d1 h_S_) main_v2 main_cst
  let main_cst_0 : FVec F S_ .f32 := constant S_ .f32 0xFF800000#32
  let main_v4 : FVec F S8192 .f32 := broadcastInDim S8192 ![] bcast_S_S8192 main_cst_0
  let main_v5 : FVec F S8192 .f32 := maximumf main_v4 main_v3
  let main_v6 : FVec F S8192x1 .f32 := broadcastInDim S8192x1 ![0] bcast_S8192_S8192x1_0 main_v5
  let main_v7 : FVec F S8192x64 .f32 := broadcastInDim S8192x64 ![0, 1] bcast_S8192x1_S8192x64_0_1 main_v6
  let main_v8 : FVec F S8192x64 .f32 := subf main_v2 main_v7
  let main_v9 : FVec F S8192x64 .f32 := Host.exp main_v8
  let main_cst_1 : FVec F S_ .f32 := constant S_ .f32 0x00000000#32
  let main_v10 : FVec F S8192 .f32 := (fun x v => Host.reduceAdd x v reducesTo_S8192x64_S8192_d1 h_S_) main_v9 main_cst_1
  let main_v11 : FVec F S8192x1 .f32 := broadcastInDim S8192x1 ![0] bcast_S8192_S8192x1_0 main_v10
  let main_v12 : FVec F S8192x64 .f32 := broadcastInDim S8192x64 ![0, 1] bcast_S8192x1_S8192x64_0_1 main_v11
  let main_v13 : FVec F S8192x64 .f32 := Host.divf main_v9 main_v12
  let main_values : FVec F S8192x8 .f32 := (fun x => (Host.topK S8192x8 1 (FloatOps.cmpfTotal .gt) x sliceFits_S8192x64_S8192x8).1) main_v13
  let main_indices : IVec S8192x8 32 := (fun x => (Host.topK S8192x8 1 (FloatOps.cmpfTotal .gt) x sliceFits_S8192x64_S8192x8).2) main_v13
  let main_cst_2 : FVec F S_ .f32 := constant S_ .f32 0x00000000#32
  let main_v14 : FVec F S8192 .f32 := (fun x v => Host.reduceAdd x v reducesTo_S8192x8_S8192_d1 h_S_) main_values main_cst_2
  let main_v15 : FVec F S8192x1 .f32 := broadcastInDim S8192x1 ![0] bcast_S8192_S8192x1_0 main_v14
  let main_cst_3 : FVec F S_ .f32 := constant S_ .f32 0x1E3CE508#32
  let main_v16 : FVec F S8192x1 .f32 := broadcastInDim S8192x1 ![] bcast_S_S8192x1 main_cst_3
  fn_part1 (F := F) main_arg2 main_arg3 main_values main_indices main_v15 main_v16
-- ==== Pre_finite.lean ====
abbrev S2x4096x4096 : Shape := ⟨3, ![2, 4096, 4096]⟩
abbrev S64x4096 : Shape := ⟨2, ![64, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S2x4096x4096 .f32) (main_arg1 : FVec F S64x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S2x4096x4096 : Shape := ⟨3, ![2, 4096, 4096]⟩
abbrev S64x4096 : Shape := ⟨2, ![64, 4096]⟩
abbrev S8192x4096 : Shape := ⟨2, ![8192, 4096]⟩
abbrev S8192x8 : Shape := ⟨2, ![8192, 8]⟩
abbrev S1024x4096 : Shape := ⟨2, ![1024, 4096]⟩
abbrev S1024x8 : Shape := ⟨2, ![1024, 8]⟩
abbrev S64x1024 : Shape := ⟨2, ![64, 1024]⟩
abbrev S1024 : Shape := ⟨1, ![1024]⟩
abbrev S1x1024 : Shape := ⟨2, ![1, 1024]⟩
abbrev S8x1024 : Shape := ⟨2, ![8, 1024]⟩

abbrev nBuf : Space → Nat
  | .hbm => 5
  | .vmem => 7
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S8192x8, .i32⟩
  | .hbm, ⟨4, _⟩ => ⟨S8192x8, .f32⟩
  | .local _ .vmem, ⟨0, _⟩ => ⟨S1024x4096, .f32⟩
  | .local _ .vmem, ⟨1, _⟩ => ⟨S1024x4096, .f32⟩
  | .local _ .vmem, ⟨2, _⟩ => ⟨S64x4096, .f32⟩
  | .local _ .vmem, ⟨3, _⟩ => ⟨S1024x8, .i32⟩
  | .local _ .vmem, ⟨4, _⟩ => ⟨S1024x8, .i32⟩
  | .local _ .vmem, ⟨5, _⟩ => ⟨S1024x8, .f32⟩
  | .local _ .vmem, ⟨6, _⟩ => ⟨S1024x8, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S2x4096x4096 : Shape := ⟨3, ![2, 4096, 4096]⟩
abbrev S64x4096 : Shape := ⟨2, ![64, 4096]⟩
abbrev S8192x4096 : Shape := ⟨2, ![8192, 4096]⟩
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S8192x8 : Shape := ⟨2, ![8192, 8]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S8192x4096, .f32⟩
  | .hbm, ⟨3, _⟩ => ⟨S4096x64, .f32⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S_, .f32⟩
  | .hbm, ⟨8, _⟩ => ⟨S8192, .f32⟩
  | .hbm, ⟨9, _⟩ => ⟨S8192, .f32⟩
  | .hbm, ⟨10, _⟩ => ⟨S8192x1, .f32⟩
  | .hbm, ⟨11, _⟩ => ⟨S8192x64, .f32⟩
  | .hbm, ⟨12, _⟩ => ⟨S8192x64, .f32⟩
  | .hbm, ⟨13, _⟩ => ⟨S8192x64, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S8192x64, .f32⟩
  | .hbm, ⟨18, _⟩ => ⟨S8192x64, .f32⟩
  | .hbm, ⟨19, _⟩ => ⟨S8192x8, .f32⟩
  | .hbm, ⟨20, _⟩ => ⟨S8192x8, .i32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x8, .f32⟩
  | .hbm, ⟨25, _⟩ => ⟨S8192x8, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_values : Ref sig .tc := ⟨.hbm, 19, rfl⟩
abbrev main_indices : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Proof.Rank.lean ====
/-
  Top-8 by repeated extraction, against top-8 by a stable sort: the mathematics of one token's 64 logits.
-/
module

public import Idealize.ShloMosaic.PureOps.Ideal
public import Idealize.ShloMosaic.Lib.SortFacts

@[expose] public section

noncomputable section

namespace Cert.Gate

open Idealize.ShloMosaic

/-- The mark the kernel gives expert `n`: `63 - n`, so that the greatest mark is the least expert. -/
def mark (n : Fin 64) : EReal := (((63 - (n.val : ℤ) : ℤ) : ℝ) : EReal)

/-- The greatest of 64 extended reals. -/
def top (p : Fin 64 → EReal) : EReal := Finset.univ.fold max ⊥ p

/-- The greatest mark among the experts holding the greatest value; every other expert counts as `-1`. -/
def topMark (p : Fin 64 → EReal) : EReal := Finset.univ.fold max ⊥ fun n => if p n = top p then mark n else -1

/-- One extraction: the expert whose mark was found drops to `⊥`. -/
def drop (p : Fin 64 → EReal) : Fin 64 → EReal := fun n => if mark n = topMark p then ⊥ else p n

/-- What is left after `r` extractions. -/
def left (x : Fin 64 → EReal) : ℕ → Fin 64 → EReal
  | 0 => x
  | r + 1 => drop (left x r)

/-- "Sorts before": the greater value. -/
def above (x : Fin 64 → EReal) (k k' : Fin 64) : Bool := decide (x k' < x k)

/-- "Sorts before", ties by the lesser position. -/
def aboveLex (x : Fin 64 → EReal) (k k' : Fin 64) : Bool := decide (x k' < x k ∨ (x k' = x k ∧ k < k'))

/-- The expert at rank `r`: the stable sort's, greatest value first. -/
def ranked (x : Fin 64 → EReal) : Fin 64 → Fin 64 := sortedFrom (above x)

/-- Distinct experts have distinct marks. -/
theorem mark_inj {a b : Fin 64} : mark a = mark b ↔ a = b := by
  unfold mark
  rw [EReal.coe_eq_coe_iff, Int.cast_inj]
  constructor
  · intro h; apply Fin.ext; omega
  · rintro rfl; rfl

/-- A lesser expert has the greater mark. -/
theorem mark_le {a b : Fin 64} (h : a ≤ b) : mark b ≤ mark a := by
  unfold mark
  rw [EReal.coe_le_coe_iff, Int.cast_le]
  have : a.val ≤ b.val := h
  omega

/-- Every mark is above `-1`. -/
theorem neg_one_le_mark (a : Fin 64) : (-1 : EReal) ≤ mark a := by
  unfold mark
  have h : (-1 : ℝ) ≤ ((63 - (a.val : ℤ) : ℤ) : ℝ) := by
    have : (-1 : ℤ) ≤ 63 - (a.val : ℤ) := by omega
    exact_mod_cast this
  have e : (-1 : EReal) = ((-1 : ℝ) : EReal) := rfl
  rw [e]
  exact EReal.coe_le_coe_iff.mpr h

/-- A fold of `max` that is bounded by a value it attains is that value. -/
theorem fold_max_eq {ι : Type} [Fintype ι] (f : ι → EReal) (n : ι) (h : ∀ k, f k ≤ f n) :
    Finset.univ.fold max ⊥ f = f n := by
  apply le_antisymm
  · exact (Finset.fold_max_le (f n)).mpr ⟨bot_le, fun k _ => h k⟩
  · exact (Finset.le_fold_max (f n)).mpr (Or.inr ⟨n, Finset.mem_univ n, le_refl _⟩)

/-- The greatest value, known where it is held. -/
theorem top_eq (p : Fin 64 → EReal) (n : Fin 64) (h : ∀ k, p k ≤ p n) : top p = p n := fold_max_eq p n h

/-- The greatest mark, known where the greatest value is held first. -/
theorem topMark_eq (p : Fin 64 → EReal) (n : Fin 64) (h : ∀ k, p k ≤ p n) (hf : ∀ k, p k = p n → n ≤ k) :
    topMark p = mark n := by
  unfold topMark
  rw [top_eq p n h, fold_max_eq _ n]
  · simp
  · intro k
    rw [if_pos rfl]
    split
    · rename_i hk; exact mark_le (hf k hk)
    · exact neg_one_le_mark n

/-- Two relations that agree on (later, earlier) pairs of a list sort it alike. -/
theorem stableSort_congr_pairwise {ι : Type} (R R' : ι → ι → Bool) (l : List ι)
    (h : l.Pairwise fun a b => R b a = R' b a) : stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

/-- Equal sorted lists give equal sorting permutations. -/
theorem sortedFrom_eq_of_positions {n : Nat} (R R' : Fin n → Fin n → Bool) (h : sortPositions n R = sortPositions n R') :
    sortedFrom R = sortedFrom R' := by
  funext k
  unfold sortedFrom
  rw [List.get_of_eq h]
  rfl

/-- The stable sort breaks ties by position. -/
theorem ranked_eq_lex (x : Fin 64 → EReal) : ranked x = sortedFrom (aboveLex x) := by
  have h : sortPositions 64 (above x) = sortPositions 64 (aboveLex x) := by
    apply stableSort_congr_pairwise
    refine (List.pairwise_lt_finRange 64).imp ?_
    intro a b hab
    unfold above aboveLex
    have : ¬ b < a := not_lt.mpr (le_of_lt hab)
    simp [this]
  exact sortedFrom_eq_of_positions _ _ h

/-- No expert has two ranks. -/
theorem ranked_inj (x : Fin 64 → EReal) : Function.Injective (ranked x) := sortedFrom_injective _

/-- Every expert has a rank. -/
theorem ranked_surj (x : Fin 64 → EReal) : Function.Surjective (ranked x) := sortedFrom_surjective _

/-- A later rank holds a value no greater, and an equal one only at a later position. -/
theorem ranked_order (x : Fin 64 → EReal) {i j : Fin 64} (hij : i < j) :
    x (ranked x j) < x (ranked x i) ∨ (x (ranked x j) = x (ranked x i) ∧ ranked x i < ranked x j) := by
  have h : aboveLex x (ranked x j) (ranked x i) = false := by
    rw [ranked_eq_lex]
    refine sortedFrom_noInversion (aboveLex x) (aboveLex x) ?_ ?_ ?_ i j hij
    · intro a b
      simp only [aboveLex, decide_eq_true_eq, decide_eq_false_iff_not]
      rintro (h | ⟨h, h'⟩) (g | ⟨g, g'⟩)
      · exact lt_asymm h g
      · exact absurd h (by rw [g]; exact lt_irrefl _)
      · exact absurd g (by rw [h]; exact lt_irrefl _)
      · exact lt_asymm h' g'
    · intro a b h
      exact h
    · intro a b c
      simp only [aboveLex, decide_eq_false_iff_not, not_or, not_and, not_lt]
      rintro ⟨h, h'⟩ ⟨g, g'⟩
      refine ⟨le_trans h g, fun e => ?_⟩
      have e1 : x a = x b := le_antisymm h (by rw [← e]; exact g)
      have e2 : x b = x c := by rw [← e1, e]
      exact le_trans (g' e2.symm) (h' e1.symm)
  have hne : ranked x i ≠ ranked x j := fun e => absurd (ranked_inj x e) (ne_of_lt hij)
  unfold aboveLex at h
  rw [decide_eq_false_iff_not, not_or, not_and] at h
  rcases lt_trichotomy (x (ranked x j)) (x (ranked x i)) with g | g | g
  · exact Or.inl g
  · exact Or.inr ⟨g, lt_of_le_of_ne (not_lt.mp (h.2 g.symm)) hne⟩
  · exact absurd g h.1

/-- The value at a rank bounds the values at later ranks. -/
theorem ranked_le (x : Fin 64 → EReal) {i j : Fin 64} (hij : i ≤ j) : x (ranked x j) ≤ x (ranked x i) := by
  rcases eq_or_lt_of_le hij with rfl | h
  · exact le_refl _
  · rcases ranked_order x h with g | g
    · exact le_of_lt g
    · exact le_of_eq g.1

/-- After `r` extractions exactly the `r` first-ranked experts are gone. -/
theorem left_eq (x : Fin 64 → EReal) (hx : ∀ k, x k ≠ ⊥) (r : ℕ) (hr : r ≤ 63) :
    (∀ i : Fin 64, left x r (ranked x i) = if i.val < r then ⊥ else x (ranked x i))
      ∧ top (left x r) = x (ranked x ⟨r, by omega⟩) ∧ topMark (left x r) = mark (ranked x ⟨r, by omega⟩) := by
  have key : ∀ (r : ℕ) (hr : r ≤ 63),
      (∀ i : Fin 64, left x r (ranked x i) = if i.val < r then ⊥ else x (ranked x i)) →
      top (left x r) = x (ranked x ⟨r, by omega⟩) ∧ topMark (left x r) = mark (ranked x ⟨r, by omega⟩) := by
    intro r hr h
    have hself : left x r (ranked x ⟨r, by omega⟩) = x (ranked x ⟨r, by omega⟩) := by
      rw [h]; simp
    have hle : ∀ k, left x r k ≤ left x r (ranked x ⟨r, by omega⟩) := by
      intro k
      obtain ⟨i, rfl⟩ := ranked_surj x k
      rw [hself, h i]
      split
      · exact bot_le
      · rename_i hi; exact ranked_le x (by rw [Fin.le_def]; simpa using hi)
    have hfirst : ∀ k, left x r k = left x r (ranked x ⟨r, by omega⟩) → ranked x ⟨r, by omega⟩ ≤ k := by
      intro k
      obtain ⟨i, rfl⟩ := ranked_surj x k
      rw [hself, h i]
      split
      · intro e; exact absurd e.symm (hx _)
      · rename_i hi
        intro e
        rcases eq_or_lt_of_le (show (⟨r, by omega⟩ : Fin 64) ≤ i by rw [Fin.le_def]; simpa using hi) with g | g
        · rw [← g]
        · rcases ranked_order x g with q | q
          · exact absurd e (ne_of_lt q)
          · exact le_of_lt q.2
    exact ⟨(top_eq _ _ hle).trans hself, topMark_eq _ _ hle hfirst⟩
  have main : ∀ (r : ℕ) (hr : r ≤ 63), ∀ i : Fin 64, left x r (ranked x i) = if i.val < r then ⊥ else x (ranked x i) := by
    intro r
    induction r with
    | zero => intro _ i; simp [left]
    | succ r ih =>
      intro hr i
      have h := ih (by omega)
      show drop (left x r) (ranked x i) = _
      unfold drop
      rw [(key r (by omega) h).2]
      simp only [mark_inj, (ranked_inj x).eq_iff]
      rw [h i]
      by_cases e : i = ⟨r, by omega⟩
      · subst e; simp
      · have : i.val ≠ r := fun g => e (Fin.ext g)
        rw [if_neg e]
        by_cases l : i.val < r
        · rw [if_pos l, if_pos (by omega)]
        · rw [if_neg l, if_neg (by omega)]
  exact ⟨main r hr, key r hr (main r hr)⟩

/-- A column ordered the same way ranks the same way. -/
theorem ranked_congr (x y : Fin 64 → EReal) (h : ∀ k k', x k' < x k ↔ y k' < y k) : ranked x = ranked y := by
  have : above x = above y := by
    funext k k'; unfold above; rw [decide_eq_decide]; exact h k k'
  unfold ranked; rw [this]

end Cert.Gate

end
-- ==== Proof.Block.lean ====
/-
  What one block of the kernel computes: from the block's 1024 tokens and the weights, each token's eight experts and
  their weights, in terms of the token's own column of logits.
-/
module

public import proofs.«01_k».proof.Proof.Rank
public import proofs.«01_k».proof.Proof.Gen.KernelIdeal.Frame
public import Idealize.ShloMosaic.Lib.Pipeline.Value
public import Idealize.ShloMosaic.Lib.ValueLayout
public import Idealize.ShloMosaic.Lib.MatmulPlain
public import Idealize.ShloMosaic.PureOps.Ideal.Laws

@[expose] public section

set_option maxRecDepth 16384

noncomputable section

namespace Cert.Gate

open Idealize.ShloMosaic Idealize.ShloMosaic.ValueIdx Cert.KernelIdeal Cert.KernelIdeal.Gen

/-- Token `j`'s column. -/
def col (p : FVec Ideal S64x1024 .f32) (j : Fin 1024) : Fin 64 → EReal := fun n => p (ix2 n j)

/-- A column, read. -/
theorem col_apply (p : FVec Ideal S64x1024 .f32) (j : Fin 1024) (n : Fin 64) : col p j n = p (ix2 n j) := rfl

/-- Every column's maximum. -/
def maxV (p : FVec Ideal S64x1024 .f32) : FVec Ideal S1x1024 .f32 :=
  shapeCast S1x1024 (multiReduction .maximumf [0] S1024 p 0xFF800000#32 reduces_S64x1024_S1024 (.inl rfl) rfl)
    shapeCasts_S1024_S1x1024

/-- The marks of the experts that hold their column's maximum, `-1` elsewhere. -/
def winV (p : FVec Ideal S64x1024 .f32) : FVec Ideal S64x1024 .f32 :=
  select (cmpf .oeq p (broadcastTo S64x1024 (maxV p) broadcasts_S1x1024_S64x1024)) (k0_pay7 (F := Ideal))
    (broadcast S64x1024 (Scalar.ofBits .f32 0xBF800000#32))

/-- One extraction in every column. -/
def dropV (p : FVec Ideal S64x1024 .f32) : FVec Ideal S64x1024 .f32 :=
  select (cmpf .oeq (k0_pay7 (F := Ideal)) (broadcastTo S64x1024 (maxV (winV p)) broadcasts_S1x1024_S64x1024))
    (broadcast S64x1024 (Scalar.ofBits .f32 0xFF800000#32)) p

/-- What is left after `r` extractions in every column. -/
def leftV (p : FVec Ideal S64x1024 .f32) : ℕ → FVec Ideal S64x1024 .f32
  | 0 => p
  | r + 1 => dropV (leftV p r)

/-- The constant of the masks is `⊥`. -/
theorem ofBits_neg_inf : (FloatOps.ofBits (F := Ideal) .f32 0xFF800000#32 : EReal) = ⊥ := by
  show Ideal.ofBits .f32 0xFF800000#32 = ⊥
  simp [Ideal.ofBits, Ideal.ieee]

/-- The constant of the losers is `-1`. -/
theorem ofBits_neg_one : (FloatOps.ofBits (F := Ideal) .f32 0xBF800000#32 : EReal) = -1 := by
  show Ideal.ofBits .f32 0xBF800000#32 = -1
  simp [Ideal.ofBits, Ideal.ieee, -EReal.coe_mul, -EReal.coe_neg]; norm_num

/-- The marks, read. -/
theorem marks_apply (n : Fin 64) (j : Fin 1024) : k0_pay7 (F := Ideal) (ix2 n j) = mark n := by
  show ((((63#32 - iota .tc S64x1024 32 [0] iota_S64x1024_d0_w32 (ix2 n j) : BitVec 32).toInt : ℝ)) : EReal) = mark n
  rw [show iota .tc S64x1024 32 [0] iota_S64x1024_d0_w32 (ix2 n j) = BitVec.ofNat 32 n.val from
    iota_single_apply .tc S64x1024 32 (0 : Fin 2) _ (ix2 n j)]
  have h : ∀ n : Fin 64, (63#32 - BitVec.ofNat 32 n.val : BitVec 32).toInt = 63 - (n.val : ℤ) := by decide
  rw [h]
  rfl

/-- A column's maximum, read. -/
theorem maxV_apply (p : FVec Ideal S64x1024 .f32) (j : Fin 1024) : maxV p (ix2 0 j) = top (col p j) := by
  unfold maxV
  refine (shapeCast_a_1a_apply _ shapeCasts_S1024_S1x1024 0 j).trans ?_
  refine (Ideal.multiReduction_maximumf_single (s := S64x1024) (t := S1024) (a := (0 : Fin 2)) p 0xFF800000#32 reduces_S64x1024_S1024 (.inl rfl) rfl (ix1 j)).trans ?_
  rw [ofBits_neg_inf]
  unfold top
  congr 1
  funext k
  show p _ = p _
  congr 1
  funext a
  match a with
  | ⟨0, _⟩ => rfl
  | ⟨1, _⟩ => rfl

/-- The comparison of one element with its column's value. -/
theorem select_eq_apply (p : FVec Ideal S64x1024 .f32) (m : FVec Ideal S1x1024 .f32) (a b : FVec Ideal S64x1024 .f32)
    (n : Fin 64) (j : Fin 1024) :
    select (cmpf .oeq p (broadcastTo S64x1024 m broadcasts_S1x1024_S64x1024)) a b (ix2 n j)
      = if p (ix2 n j) = m (ix2 0 j) then a (ix2 n j) else b (ix2 n j) := by
  have hb : broadcastTo S64x1024 m broadcasts_S1x1024_S64x1024 (ix2 n j) = m (ix2 0 j) :=
    broadcastTo_1b_ab_apply m broadcasts_S1x1024_S64x1024 n j
  show (if BitVec.ofBool (decide (p (ix2 n j) = broadcastTo S64x1024 m broadcasts_S1x1024_S64x1024 (ix2 n j))) = 1#1
    then a (ix2 n j) else b (ix2 n j)) = _
  rw [hb]
  by_cases h : p (ix2 n j) = m (ix2 0 j)
  · simp [h]
  · simp [h]

/-- The greatest mark among a column's winners, read. -/
theorem winMax_apply (p : FVec Ideal S64x1024 .f32) (j : Fin 1024) : maxV (winV p) (ix2 0 j) = topMark (col p j) := by
  rw [maxV_apply]
  unfold top topMark
  congr 1
  funext n
  rw [col_apply]
  unfold winV
  rw [select_eq_apply, maxV_apply, marks_apply]
  show (if _ then _ else FloatOps.ofBits (F := Ideal) .f32 0xBF800000#32) = _
  rw [ofBits_neg_one]
  rfl

/-- One extraction, column by column. -/
theorem col_dropV (p : FVec Ideal S64x1024 .f32) (j : Fin 1024) : col (dropV p) j = drop (col p j) := by
  funext n
  rw [col_apply]
  unfold dropV drop
  rw [select_eq_apply, winMax_apply, marks_apply]
  show (if _ then FloatOps.ofBits (F := Ideal) .f32 0xFF800000#32 else _) = _
  rw [ofBits_neg_inf]
  rfl

/-- The extractions, column by column. -/
theorem col_leftV (p : FVec Ideal S64x1024 .f32) (r : ℕ) (j : Fin 1024) : col (leftV p r) j = left (col p j) r := by
  induction r with
  | zero => rfl
  | succ r ih => show col (dropV (leftV p r)) j = drop (left (col p j) r); rw [col_dropV, ih]

/-- Eight rows stacked. -/
def stackV (f : Fin 8 → FVec Ideal S1x1024 .f32) : FVec Ideal S8x1024 .f32 :=
  concatenate S8x1024 0 [⟨S1x1024, f 0⟩, ⟨S1x1024, f 1⟩, ⟨S1x1024, f 2⟩, ⟨S1x1024, f 3⟩, ⟨S1x1024, f 4⟩,
    ⟨S1x1024, f 5⟩, ⟨S1x1024, f 6⟩, ⟨S1x1024, f 7⟩]
    concatenates_S1x1024_S1x1024_S1x1024_S1x1024_S1x1024_S1x1024_S1x1024_S1x1024_S8x1024_d0

/-- Eight rows stacked, read. -/
theorem stackV_apply (f : Fin 8 → FVec Ideal S1x1024 .f32) (r : Fin 8) (j : Fin 1024) :
    stackV f (ix2 r j) = f r (ix2 0 j) := by
  show concatenate S8x1024 (0 : Fin 2) (List.ofFn fun n : Fin 8 => (⟨S1x1024, f n⟩ : (s : Shape) × (s.Idx → EReal)))
    concatenates_S1x1024_S1x1024_S1x1024_S1x1024_S1x1024_S1x1024_S1x1024_S1x1024_S8x1024_d0 (ix2 r j) = _
  refine concatenate_ofFn_unit_apply (t := S8x1024) (s₁ := S1x1024) (0 : Fin 2) f _ rfl rfl (ix2 r j) r rfl (ix2 0 j) ?_
  intro b hb
  match b with
  | ⟨0, _⟩ => exact absurd rfl hb
  | ⟨1, _⟩ => rfl

/-- The expert numbers from the eight rows of marks. -/
def idxV (f : Fin 8 → FVec Ideal S1x1024 .f32) : IVec S1024x8 32 :=
  transpose S1024x8 [1, 0] (subi (broadcast S8x1024 63#32) (fptosi 32 (stackV f))) transposes_S8x1024_p1_0_S1024x8

/-- The exponentials of the eight rows of maxima less the first. -/
def expV (f : Fin 8 → FVec Ideal S1x1024 .f32) : FVec Ideal S8x1024 .f32 :=
  exp (subf (stackV f) (broadcastTo S8x1024
    (extractStridedSlice S1x1024 ![0, 0] (stackV f) slices_S8x1024_o0_0_S1x1024) broadcasts_S1x1024_S8x1024))

/-- The sum over the eight rows. -/
def sumV (e : FVec Ideal S8x1024 .f32) : FVec Ideal S1x1024 .f32 :=
  shapeCast S1x1024 (multiReduction .add [0] S1024 e 0x00000000#32 reduces_S8x1024_S1024 (.inl rfl) rfl)
    shapeCasts_S1024_S1x1024

/-- The weights from the eight rows of maxima. -/
def wgtV (f : Fin 8 → FVec Ideal S1x1024 .f32) : FVec Ideal S1024x8 .f32 :=
  transpose S1024x8 [1, 0] (divf (expV f) (broadcastTo S8x1024 (sumV (expV f)) broadcasts_S1x1024_S8x1024))
    transposes_S8x1024_p1_0_S1024x8

/-- The sum over the eight rows, read. -/
theorem sumV_apply (e : FVec Ideal S8x1024 .f32) (j : Fin 1024) : sumV e (ix2 0 j) = ∑ s : Fin 8, e (ix2 s j) := by
  unfold sumV
  refine (shapeCast_a_1a_apply _ shapeCasts_S1024_S1x1024 0 j).trans ?_
  refine (Ideal.multiReduction_add_single (s := S8x1024) (t := S1024) (a := (0 : Fin 2)) e 0x00000000#32 reduces_S8x1024_S1024 (.inl rfl) rfl (ix1 j)).trans ?_
  refine Finset.sum_congr rfl fun s _ => ?_
  congr 1
  funext a
  match a with
  | ⟨0, _⟩ => rfl
  | ⟨1, _⟩ => rfl

/-- `63` less a mark read back as a word is the expert. -/
theorem word_of_mark (n : Fin 64) : 63#32 - Ideal.fptosi 32 (mark n) = BitVec.ofNat 32 n.val := by
  have h : Ideal.fptosi 32 (mark n) = BitVec.ofInt 32 (63 - (n.val : ℤ)) := by
    unfold Ideal.fptosi mark
    rw [Ideal.toIntClamped_coe]
    have h0 : (0 : ℝ) ≤ ((63 - (n.val : ℤ) : ℤ) : ℝ) := by
      have : (0 : ℤ) ≤ 63 - (n.val : ℤ) := by omega
      exact_mod_cast this
    rw [if_pos h0, Int.floor_intCast]
    congr 1
    have : n.val < 64 := n.isLt
    norm_num
    omega
  rw [h]
  have g : ∀ n : Fin 64, 63#32 - BitVec.ofInt 32 (63 - (n.val : ℤ)) = BitVec.ofNat 32 n.val := by decide
  exact g n

/-- The expert numbers, read. -/
theorem idxV_apply (f : Fin 8 → FVec Ideal S1x1024 .f32) (j : Fin 1024) (r : Fin 8) (n : Fin 64)
    (h : f r (ix2 0 j) = mark n) : idxV f (ix2 j r) = BitVec.ofNat 32 n.val := by
  refine (transpose_ix2_apply _ transposes_S8x1024_p1_0_S1024x8 j r).trans ?_
  show 63#32 - Ideal.fptosi 32 (stackV f (ix2 r j)) = _
  rw [stackV_apply, h, word_of_mark]

/-- An exponential, read. -/
theorem expV_apply (f : Fin 8 → FVec Ideal S1x1024 .f32) (j : Fin 1024) (r : Fin 8) :
    expV f (ix2 r j) = Ideal.exp (f r (ix2 0 j) - f 0 (ix2 0 j)) := by
  have hb : broadcastTo S8x1024 (extractStridedSlice S1x1024 ![0, 0] (stackV f) slices_S8x1024_o0_0_S1x1024)
      broadcasts_S1x1024_S8x1024 (ix2 r j) = f 0 (ix2 0 j) := by
    refine (broadcastTo_1b_ab_apply _ broadcasts_S1x1024_S8x1024 r j).trans ?_
    refine (slice2_axis0_apply 0 (stackV f) slices_S8x1024_o0_0_S1x1024 0 j (0 : Fin 8) rfl).trans ?_
    exact stackV_apply f 0 j
  show Ideal.exp (stackV f (ix2 r j) - broadcastTo S8x1024 _ _ (ix2 r j)) = _
  rw [hb, stackV_apply]

/-- A weight, read. -/
theorem wgtV_apply (f : Fin 8 → FVec Ideal S1x1024 .f32) (j : Fin 1024) (r : Fin 8) :
    wgtV f (ix2 j r) = Ideal.div (Ideal.exp (f r (ix2 0 j) - f 0 (ix2 0 j)))
      (∑ s : Fin 8, Ideal.exp (f s (ix2 0 j) - f 0 (ix2 0 j))) := by
  refine (transpose_ix2_apply _ transposes_S8x1024_p1_0_S1024x8 j r).trans ?_
  have hs : broadcastTo S8x1024 (sumV (expV f)) broadcasts_S1x1024_S8x1024 (ix2 r j)
      = ∑ s : Fin 8, Ideal.exp (f s (ix2 0 j) - f 0 (ix2 0 j)) := by
    refine (broadcastTo_1b_ab_apply _ broadcasts_S1x1024_S8x1024 r j).trans ?_
    rw [sumV_apply]
    exact Finset.sum_congr rfl fun s _ => expV_apply f j s
  have hd : divf (expV f) (broadcastTo S8x1024 (sumV (expV f)) broadcasts_S1x1024_S8x1024) (ix2 r j)
      = Ideal.div (expV f (ix2 r j)) (broadcastTo S8x1024 (sumV (expV f)) broadcasts_S1x1024_S8x1024 (ix2 r j)) := rfl
  rw [hd, hs, expV_apply]

/-- The eight rows of marks of a block. -/
def marksV (p : FVec Ideal S64x1024 .f32) (r : Fin 8) : FVec Ideal S1x1024 .f32 := maxV (winV (leftV p r.val))

/-- The eight rows of maxima of a block. -/
def maxesV (p : FVec Ideal S64x1024 .f32) (r : Fin 8) : FVec Ideal S1x1024 .f32 := maxV (leftV p r.val)

end Cert.Gate

end
-- ==== Proof.Outs.lean ====
/-
  The block's two outputs as the run states them, in the terms of Block: the program's eight written-out rounds are the
  eight steps of one recursion.
-/
module

public import proofs.«01_k».proof.Proof.Block

@[expose] public section

set_option maxRecDepth 16384

noncomputable section

namespace Cert.Gate

open Idealize.ShloMosaic Idealize.ShloMosaic.ValueIdx Cert.KernelIdeal Cert.KernelIdeal.Gen

variable (x0 : Vec Ideal S1024x4096 .f32) (x1 : Vec Ideal S64x4096 .f32)

/-- A block's logits. -/
def logV : FVec Ideal S64x1024 .f32 := k0_pay6 (View.ld x0 r0_0) (View.ld x1 r0_1)

theorem left1 : k0_pay10 (View.ld x0 r0_0) (View.ld x1 r0_1) = leftV (logV x0 x1) 1 := rfl
theorem left2 : k0_pay13 (View.ld x0 r0_0) (View.ld x1 r0_1) = leftV (logV x0 x1) 2 := by
  show _ = dropV (leftV (logV x0 x1) 1); rw [← left1]; rfl
theorem left3 : k0_pay17 (k0_pay30 x0 x1) (k0_pay31 x0 x1) = leftV (logV x0 x1) 3 := by
  show _ = dropV (leftV (logV x0 x1) 2); rw [← left2]; rfl
theorem left4 : k0_pay20 (k0_pay29 x0 x1) (k0_pay30 x0 x1) (k0_pay31 x0 x1) = leftV (logV x0 x1) 4 := by
  show _ = dropV (leftV (logV x0 x1) 3); rw [← left3]; rfl
theorem left5 : k0_pay23 (k0_pay29 x0 x1) (k0_pay30 x0 x1) (k0_pay31 x0 x1) = leftV (logV x0 x1) 5 := by
  show _ = dropV (leftV (logV x0 x1) 4); rw [← left4]; rfl
theorem left6 : k0_pay32 x0 x1 = leftV (logV x0 x1) 6 := by
  show _ = dropV (leftV (logV x0 x1) 5); rw [← left5]; rfl
theorem left7 : k0_pay2 (k0_pay29 x0 x1) (k0_pay32 x0 x1) (k0_pay33 x0 x1) = leftV (logV x0 x1) 7 := by
  show _ = dropV (leftV (logV x0 x1) 6); rw [← left6]; rfl

theorem max0 : k0_pay8 (View.ld x0 r0_0) (View.ld x1 r0_1) = maxV (leftV (logV x0 x1) 0) := rfl
theorem max1 : k0_pay11 (View.ld x0 r0_0) (View.ld x1 r0_1) = maxV (leftV (logV x0 x1) 1) := by rw [← left1]; rfl
theorem max2 : k0_pay14 (View.ld x0 r0_0) (View.ld x1 r0_1) = maxV (leftV (logV x0 x1) 2) := by rw [← left2]; rfl
theorem max3 : k0_pay18 (k0_pay30 x0 x1) (k0_pay31 x0 x1) = maxV (leftV (logV x0 x1) 3) := by rw [← left3]; rfl
theorem max4 : k0_pay21 (k0_pay29 x0 x1) (k0_pay30 x0 x1) (k0_pay31 x0 x1) = maxV (leftV (logV x0 x1) 4) := by
  rw [← left4]; rfl
theorem max5 : k0_pay24 (k0_pay29 x0 x1) (k0_pay30 x0 x1) (k0_pay31 x0 x1) = maxV (leftV (logV x0 x1) 5) := by
  rw [← left5]; rfl
theorem max6 : k0_pay27 (k0_pay29 x0 x1) (k0_pay30 x0 x1) (k0_pay31 x0 x1) = maxV (leftV (logV x0 x1) 6) := by
  rw [← left6]; rfl
theorem max7 : k0_pay3 (k0_pay29 x0 x1) (k0_pay32 x0 x1) (k0_pay33 x0 x1) = maxV (leftV (logV x0 x1) 7) := by
  rw [← left7]; rfl

theorem win0 : k0_pay9 (View.ld x0 r0_0) (View.ld x1 r0_1) = maxV (winV (leftV (logV x0 x1) 0)) := rfl
theorem win1 : k0_pay12 (View.ld x0 r0_0) (View.ld x1 r0_1) = maxV (winV (leftV (logV x0 x1) 1)) := by
  rw [← left1]; rfl
theorem win2 : k0_pay15 (View.ld x0 r0_0) (View.ld x1 r0_1) = maxV (winV (leftV (logV x0 x1) 2)) := by
  rw [← left2]; rfl
theorem win3 : k0_pay19 (k0_pay29 x0 x1) (k0_pay30 x0 x1) (k0_pay31 x0 x1) = maxV (winV (leftV (logV x0 x1) 3)) := by
  rw [← left3]; rfl
theorem win4 : k0_pay22 (k0_pay29 x0 x1) (k0_pay30 x0 x1) (k0_pay31 x0 x1) = maxV (winV (leftV (logV x0 x1) 4)) := by
  rw [← left4]; rfl
theorem win5 : k0_pay25 (k0_pay29 x0 x1) (k0_pay30 x0 x1) (k0_pay31 x0 x1) = maxV (winV (leftV (logV x0 x1) 5)) := by
  rw [← left5]; rfl
theorem win6 : k0_pay1 (k0_pay33 x0 x1) = maxV (winV (leftV (logV x0 x1) 6)) := by
  rw [← left6]; rfl

/-- Eight rows stacked, each row named. -/
def stack8 (a b c d e f g h : FVec Ideal S1x1024 .f32) : FVec Ideal S8x1024 .f32 :=
  concatenate S8x1024 0 [⟨S1x1024, a⟩, ⟨S1x1024, b⟩, ⟨S1x1024, c⟩, ⟨S1x1024, d⟩, ⟨S1x1024, e⟩, ⟨S1x1024, f⟩,
    ⟨S1x1024, g⟩, ⟨S1x1024, h⟩]
    concatenates_S1x1024_S1x1024_S1x1024_S1x1024_S1x1024_S1x1024_S1x1024_S1x1024_S8x1024_d0

/-- The expert numbers from the stacked marks. -/
def idxS (s : FVec Ideal S8x1024 .f32) : IVec S1024x8 32 :=
  transpose S1024x8 [1, 0] (subi (broadcast S8x1024 63#32) (fptosi 32 s)) transposes_S8x1024_p1_0_S1024x8

/-- The exponentials from the stacked maxima. -/
def expS (s : FVec Ideal S8x1024 .f32) : FVec Ideal S8x1024 .f32 :=
  exp (subf s (broadcastTo S8x1024
    (extractStridedSlice S1x1024 ![0, 0] s slices_S8x1024_o0_0_S1x1024) broadcasts_S1x1024_S8x1024))

/-- The weights from the stacked maxima. -/
def wgtS (s : FVec Ideal S8x1024 .f32) : FVec Ideal S1024x8 .f32 :=
  transpose S1024x8 [1, 0] (divf (expS s) (broadcastTo S8x1024 (sumV (expS s)) broadcasts_S1x1024_S8x1024))
    transposes_S8x1024_p1_0_S1024x8

theorem stackV_eq (f : Fin 8 → FVec Ideal S1x1024 .f32) :
    stackV f = stack8 (f 0) (f 1) (f 2) (f 3) (f 4) (f 5) (f 6) (f 7) := rfl
theorem idxV_eq (f : Fin 8 → FVec Ideal S1x1024 .f32) : idxV f = idxS (stackV f) := rfl
theorem wgtV_eq (f : Fin 8 → FVec Ideal S1x1024 .f32) : wgtV f = wgtS (stackV f) := rfl

/-- The printed expert numbers; the last round's marks are computed in place. -/
theorem pay4_eq (v7 : FVec Ideal S64x1024 .f32) (h : v7 = k0_pay7 (F := Ideal)) (a b c d e f : FVec Ideal S1x1024 .f32)
    (p q : FVec Ideal S64x1024 .f32) :
    k0_pay4 v7 a b c d e f p q = idxS (stack8 a b c d e f (k0_pay1 q) (maxV (winV (k0_pay2 v7 p q)))) := by
  subst h
  rfl

/-- The printed weights. -/
theorem pay5_eq (v7 : FVec Ideal S64x1024 .f32) (a b c d e f g : FVec Ideal S1x1024 .f32) (p q : FVec Ideal S64x1024 .f32) :
    k0_pay5 v7 a b c d e f p g q = wgtS (stack8 a b c d e f g (k0_pay3 v7 p q)) := rfl

/-- The offsets of a whole block are zero. -/
theorem off_zero : (![0, 0] : Fin 2 → Nat) = fun _ => 0 := by
  funext a; match a with | ⟨0, _⟩ => rfl | ⟨1, _⟩ => rfl

/-- The block's expert numbers. -/
theorem out2_eq : out0_2 x0 x1 = idxV (marksV (logV x0 x1)) := by
  unfold out0_2
  refine (View.canon_unit_zero (Val := Elt Ideal) off_zero _ _).trans ?_
  rw [pay4_eq (k0_pay29 x0 x1) rfl, left7, win0, win1, win2, win3, win4, win5, win6]
  rw [idxV_eq, stackV_eq]
  rfl

/-- The block's weights. -/
theorem out3_eq : out0_3 x0 x1 = wgtV (maxesV (logV x0 x1)) := by
  unfold out0_3
  refine (View.canon_unit_zero (Val := Elt Ideal) off_zero _ _).trans ?_
  rw [pay5_eq, max0, max1, max2, max3, max4, max5, max6, max7]
  rw [wgtV_eq, stackV_eq]
  rfl

/-- A logit: the expert's weight row times the token's row. -/
theorem logV_apply (n : Fin 64) (j : Fin 1024) : logV x0 x1 (ix2 n j) = ∑ k : Fin 4096, x1 (ix2 n k) * x0 (ix2 j k) := by
  have h0 : View.ld x0 r0_0 = x0 := View.ld_unit_zero off_zero _ x0
  have h1 : View.ld x1 r0_1 = x1 := View.ld_unit_zero off_zero _ x1
  have e : logV x0 x1 = FloatOps.matmul (F := Ideal) (φ₁ := .f32) (φ₂ := .f32) (DotDims.transposedRhs 64 4096 1024) none x1 x0
      (constant S64x1024 .f32 0x00000000#32) := by
    unfold logV k0_pay6
    rw [h0, h1, shapeCast_self]
    rfl
  rw [e]
  refine (Ideal.matmul_transposedRhs_apply (φ₁ := .f32) (φ₂ := .f32) none x1 x0 _ n j).trans ?_
  show Ideal.ofBits .f32 0x00000000#32 + _ = _
  rw [Ideal.ofBits_zero_f32, zero_add]

/-- Token `j`'s eight experts, from its logits. -/
theorem out2_apply (j : Fin 1024) (r : Fin 8) (x : Fin 64 → EReal) (hx : ∀ k, x k ≠ ⊥)
    (h : ∀ n, ∑ k : Fin 4096, x1 (ix2 n k) * x0 (ix2 j k) = x n) :
    out0_2 x0 x1 (ix2 j r) = BitVec.ofNat 32 (ranked x (r.castLE (by omega))).val := by
  have hc : col (logV x0 x1) j = x := by
    funext n; rw [← h n]; exact logV_apply x0 x1 n j
  rw [out2_eq]
  refine idxV_apply _ j r _ ?_
  unfold marksV
  rw [winMax_apply, col_leftV, hc]
  exact (left_eq x hx r.val (by omega)).2.2

/-- Token `j`'s eight weights, from its logits. -/
theorem out3_apply (j : Fin 1024) (r : Fin 8) (x : Fin 64 → EReal) (hx : ∀ k, x k ≠ ⊥)
    (h : ∀ n, ∑ k : Fin 4096, x1 (ix2 n k) * x0 (ix2 j k) = x n) :
    out0_3 x0 x1 (ix2 j r) = Ideal.div (Ideal.exp (x (ranked x (r.castLE (by omega))) - x (ranked x 0)))
      (∑ s : Fin 8, Ideal.exp (x (ranked x (s.castLE (by omega))) - x (ranked x 0))) := by
  have hc : col (logV x0 x1) j = x := by
    funext n; rw [← h n]; exact logV_apply x0 x1 n j
  have hm : ∀ s : Fin 8, maxesV (logV x0 x1) s (ix2 0 j) = x (ranked x (s.castLE (by omega))) := by
    intro s
    unfold maxesV
    rw [maxV_apply, col_leftV, hc]
    exact (left_eq x hx s.val (by omega)).2.1
  rw [out3_eq, wgtV_apply]
  simp only [hm]
  rfl

end Cert.Gate

end
-- ==== Proof.Spec.lean ====
/-
  What both programs compute, as functions of the token array and the weights.
-/
module

public import proofs.«01_k».proof.Proof.Rank
public import Idealize.ShloMosaic.Lib.ValueLayout

@[expose] public section

noncomputable section

namespace Cert.Gate

open Idealize.ShloMosaic Idealize.ShloMosaic.ValueIdx

variable (A : FVec Ideal ⟨2, ![8192, 4096]⟩ .f32) (W : FVec Ideal ⟨2, ![64, 4096]⟩ .f32)

/-- The logit of a token for an expert: the expert's weight row times the token's row. -/
def logit (tok : Fin 8192) (n : Fin 64) : EReal := ∑ k : Fin 4096, W (ix2 n k) * A (ix2 tok k)

/-- The expert at rank `r` of eight, from a column of 64 logits. -/
def pick (x : Fin 64 → EReal) (r : Fin 8) : Fin 64 := ranked x (r.castLE (by omega))

/-- The weight at rank `r`: the softmax over the eight greatest logits. -/
def weight (x : Fin 64 → EReal) (r : Fin 8) : EReal :=
  Ideal.div (Ideal.exp (x (pick x r) - x (pick x 0))) (∑ s : Fin 8, Ideal.exp (x (pick x s) - x (pick x 0)))

/-- The result of expert numbers. -/
def experts : IVec ⟨2, ![8192, 8]⟩ 32 := fun i => BitVec.ofNat 32 (pick (logit A W (i 0)) (i 1)).val

/-- The result of weights. -/
def weights : FVec Ideal ⟨2, ![8192, 8]⟩ .f32 := fun i => weight (logit A W (i 0)) (i 1)

end Cert.Gate

end
-- ==== Proof.KRun.lean ====
/-
  The kernel's two result arrays after its run, as functions of its arguments: eight blocks of 1024 tokens.
-/
module

public import proofs.«01_k».proof.Proof.Outs
public import proofs.«01_k».proof.Proof.Spec
public import Idealize.ShloMosaic.Lib.Pipeline.ValueKit

@[expose] public section

set_option maxRecDepth 16384

noncomputable section

namespace Cert.Gate.KRun

open Idealize.ShloMosaic hiding ix2 ix1 eq_ix2
open Idealize.ShloMosaic.TcCoe Idealize.ShloMosaic.ValueIdx Idealize.SL.Sem
open Cert.KernelIdeal Cert.KernelIdeal.Gen Cert.Gate

variable (m : (ℓ : Loc nD τ sig) → Buf (Elt Ideal) ℓ) (ρ : Dev nD → PrngReg)

/-- The tokens as one array of rows. -/
def rows (c : Dev nD) : FVec Ideal S8192x4096 .f32 :=
  shapeCast S8192x4096 (m ((c : Thread nD τ).loc main_arg0)) shapeCasts_S2x4096x4096_S8192x4096

/-- The weights. -/
def wts (c : Dev nD) : FVec Ideal S64x4096 .f32 := m ((c : Thread nD τ).loc main_arg1)

/-- The region finds the tokens reshaped. -/
theorem V_rows (c : Dev nD) : V m c main_call0_v0 = rows m c := by
  rfl

/-- Each window's block index at a point. -/
theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)

/-- Row `j` of block `t`. -/
def tok (t : Fin cfg0.N) (j : Fin 1024) : Fin 8192 :=
  ⟨t.val * 1024 + j.val, by have h : t.val < 8 := t.isLt; omega⟩

/-- Block `t` of the tokens. -/
def blk0 (c : Dev nD) (t : Fin cfg0.N) : Vec Ideal S1024x4096 .f32 := iblk m c 0 t

/-- The block of weights. -/
def blk1 (c : Dev nD) (t : Fin cfg0.N) : Vec Ideal S64x4096 .f32 := iblk m c 1 t

/-- Block `t` of the tokens, read. -/
theorem iblk0_apply (c : Dev nD) (t : Fin cfg0.N) (j : Fin 1024) (k : Fin 4096) :
    blk0 m c t (ix2 j k) = rows m c (ix2 (tok t j) k) := by
  rw [← V_rows]
  show V m c main_call0_v0 (((cfg0.win 0).blk t).view.emb (ix2 j k)) = V m c main_call0_v0 (ix2 (tok t j) k)
  obtain ⟨e0, e1⟩ := idx0 t
  congr 1
  funext a; apply Fin.ext
  match a with
  | ⟨0, _⟩ => show win0_0.index t (0 : Fin 2) * 1024 + 1 * j.val = t.val * 1024 + j.val; omega
  | ⟨1, _⟩ => show win0_0.index t (1 : Fin 2) * 4096 + 1 * k.val = k.val; omega

/-- The block of weights, read. -/
theorem iblk1_apply (c : Dev nD) (t : Fin cfg0.N) (n : Fin 64) (k : Fin 4096) :
    blk1 m c t (ix2 n k) = wts m c (ix2 n k) := by
  unfold wts
  rw [← V_main_arg1 m c]
  show V m c main_arg1 (((cfg0.win 1).blk t).view.emb (ix2 n k)) = V m c main_arg1 (ix2 n k)
  obtain ⟨e0, e1⟩ := idx1 t
  congr 1
  funext a; apply Fin.ext
  match a with
  | ⟨0, _⟩ => show win0_1.index t (0 : Fin 2) * 64 + 1 * n.val = n.val; omega
  | ⟨1, _⟩ => show win0_1.index t (1 : Fin 2) * 4096 + 1 * k.val = k.val; omega

/-- Where the output blocks lie. -/
theorem emb2 (t : Fin cfg0.N) (j : Fin 1024) (r : Fin 8) :
    ((cfg0.win 2).blk t).view.emb (ix2 j r) = (ix2 (tok t j) r : S8192x8.Idx) := by
  obtain ⟨e0, e1⟩ := idx2 t
  funext a; apply Fin.ext
  match a with
  | ⟨0, _⟩ => show win0_2.index t (0 : Fin 2) * 1024 + 1 * j.val = t.val * 1024 + j.val; omega
  | ⟨1, _⟩ => show win0_2.index t (1 : Fin 2) * 8 + 1 * r.val = r.val; omega
theorem emb3 (t : Fin cfg0.N) (j : Fin 1024) (r : Fin 8) :
    ((cfg0.win 3).blk t).view.emb (ix2 j r) = (ix2 (tok t j) r : S8192x8.Idx) := by
  obtain ⟨e0, e1⟩ := idx3 t
  funext a; apply Fin.ext
  match a with
  | ⟨0, _⟩ => show win0_3.index t (0 : Fin 2) * 1024 + 1 * j.val = t.val * 1024 + j.val; omega
  | ⟨1, _⟩ => show win0_3.index t (1 : Fin 2) * 8 + 1 * r.val = r.val; omega

/-- No logit is `⊥`. -/
def Proper (A : FVec Ideal S8192x4096 .f32) (W : FVec Ideal S64x4096 .f32) : Prop := ∀ tok n, logit A W tok n ≠ ⊥

/-- The logits of block `t`. -/
theorem logit_block (c : Dev nD) (t : Fin cfg0.N) (j : Fin 1024) (n : Fin 64) :
    ∑ k : Fin 4096, blk1 m c t (ix2 n k) * blk0 m c t (ix2 j k) = logit (rows m c) (wts m c) (tok t j) n := by
  unfold logit
  refine Finset.sum_congr rfl fun k _ => ?_
  rw [iblk0_apply, iblk1_apply]

/-- What point `t` leaves in output 2's block, at its place in the array. -/
theorem point2 (c : Dev nD) (hp : Proper (rows m c) (wts m c)) (t : Fin cfg0.N) (y : S1024x8.Idx) :
    out0_2 (blk0 m c t) (blk1 m c t) y = experts (rows m c) (wts m c) (((cfg0.win 2).blk t).view.emb y) := by
  obtain ⟨j, r, rfl⟩ : ∃ (j : Fin 1024) (r : Fin 8), y = ix2 j r := ⟨y 0, y 1, eq_ix2 y⟩
  rw [emb2]
  exact out2_apply (blk0 m c t) (blk1 m c t) j r _ (fun k => hp (tok t j) k) (logit_block m c t j)

/-- Output 2's blocks cover its array. -/
theorem covers2 : (cfg0.win 2).Covers := by decide +kernel

/-- Output 2's expert numbers after the run. -/
theorem final2 (c : Dev nD) (hp : Proper (rows m c) (wts m c)) :
    (dats m 0 c).arrAt 2 cfg0.N = experts (rows m c) (wts m c) := by
  refine (dats m 0 c).arrAt_eq_of_covers 2 (experts (rows m c) (wts m c)) covers2 ?_ (Memref.isWhole_whole _)
  intro t hf y
  have hy := point2 m c hp t y
  have ha : (dats m 0 c).after 2 t = out0_2 (blk0 m c t) (blk1 m c t) := after0_2 m c t
  rw [ha]
  generalize out0_2 (blk0 m c t) (blk1 m c t) = f at hy ⊢
  exact hy

/-- What point `t` leaves in output 3's block, at its place in the array. -/
theorem point3 (c : Dev nD) (hp : Proper (rows m c) (wts m c)) (t : Fin cfg0.N) (y : S1024x8.Idx) :
    out0_3 (blk0 m c t) (blk1 m c t) y = weights (rows m c) (wts m c) (((cfg0.win 3).blk t).view.emb y) := by
  obtain ⟨j, r, rfl⟩ : ∃ (j : Fin 1024) (r : Fin 8), y = ix2 j r := ⟨y 0, y 1, eq_ix2 y⟩
  rw [emb3]
  exact out3_apply (blk0 m c t) (blk1 m c t) j r _ (fun k => hp (tok t j) k) (logit_block m c t j)

/-- Output 3's blocks cover its array. -/
theorem covers3 : (cfg0.win 3).Covers := by decide +kernel

/-- Output 3's weights after the run. -/
theorem final3 (c : Dev nD) (hp : Proper (rows m c) (wts m c)) :
    (dats m 0 c).arrAt 3 cfg0.N = weights (rows m c) (wts m c) := by
  refine (dats m 0 c).arrAt_eq_of_covers 3 (weights (rows m c) (wts m c)) covers3 ?_ (Memref.isWhole_whole _)
  intro t hf y
  have hy := point3 m c hp t y
  have ha : (dats m 0 c).after 3 t = out0_3 (blk0 m c t) (blk1 m c t) := after0_3 m c t
  rw [ha]
  generalize out0_3 (blk0 m c t) (blk1 m c t) = f at hy ⊢
  exact hy

/-- The kernel's run: both results, the arguments as they were. -/
theorem run (hp : ∀ c, Proper (rows m c) (wts m c)) :
    θ_run defs (onTc (τ := τ) (main (F := Ideal))) ⟨m, fun _ => 0, ρ⟩ fun r => ∀ c : Dev nD,
      r.2.mem ((c : Thread nD τ).loc main_v0_0) = experts (rows m c) (wts m c)
      ∧ r.2.mem ((c : Thread nD τ).loc main_v0_1) = weights (rows m c) (wts m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 2).trans (final2 m c (hp c)),
      ((h c).1 3).trans (final3 m c (hp c)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c)))⟩)
    (run_main m ρ)

end Cert.Gate.KRun

end
-- ==== Proof.Softmax.lean ====
/-
  Softmax over real logits keeps their order, and the eight greatest softmax values divided by their sum are the softmax
  over the eight greatest logits.
-/
module

public import proofs.«01_k».proof.Proof.Spec

@[expose] public section

noncomputable section

namespace Cert.Gate

open Idealize.ShloMosaic Idealize.ShloMosaic.ValueIdx

/-- The softmax of a column, less its greatest value. -/
def score (x : Fin 64 → EReal) (n : Fin 64) : EReal :=
  Ideal.div (Ideal.exp (x n - top x)) (∑ k : Fin 64, Ideal.exp (x k - top x))

/-- Coercion of a sum of reals. -/
theorem coe_sum {ι : Type} [Fintype ι] (f : ι → ℝ) : ((∑ i, f i : ℝ) : EReal) = ∑ i, (f i : EReal) := by
  classical
  induction (Finset.univ : Finset ι) using Finset.induction_on with
  | empty => simp
  | insert a s ha ih => rw [Finset.sum_insert ha, Finset.sum_insert ha, EReal.coe_add, ih]

/-- The exponential of a difference of reals. -/
theorem exp_sub_coe (a b : ℝ) : Ideal.exp ((a : EReal) - (b : EReal)) = ((Real.exp (a - b) : ℝ) : EReal) := by
  rw [← EReal.coe_sub]; rfl

variable (y : Fin 64 → ℝ)

/-- The greatest value is the first-ranked one. -/
theorem top_eq_first (x : Fin 64 → EReal) : top x = x (ranked x 0) := by
  refine top_eq x _ fun k => ?_
  obtain ⟨i, rfl⟩ := ranked_surj x k
  exact ranked_le x (Fin.zero_le i)

/-- The sum of the exponentials. -/
def expSum (b : ℝ) : ℝ := ∑ k : Fin 64, Real.exp (y k - b)

theorem expSum_pos (b : ℝ) : 0 < expSum y b :=
  Finset.sum_pos (fun k _ => Real.exp_pos _) ⟨0, Finset.mem_univ _⟩

/-- A column of reals. -/
def re (n : Fin 64) : EReal := (y n : EReal)

/-- The softmax of a column of reals. -/
theorem score_coe (n : Fin 64) :
    score (re y) n = ((Real.exp (y n - y (ranked (re y) 0)) * (1 / expSum y (y (ranked (re y) 0))) : ℝ) : EReal) := by
  unfold score
  rw [top_eq_first]
  generalize ranked (re y) 0 = b
  show Ideal.div (Ideal.exp ((y n : EReal) - (y b : EReal))) (∑ k : Fin 64, Ideal.exp ((y k : EReal) - (y b : EReal))) = _
  simp only [exp_sub_coe]
  rw [← coe_sum, ← expSum, Ideal.div_coe (ne_of_gt (expSum_pos y _)), ← EReal.coe_mul]

/-- Softmax keeps the order, so it keeps the ranks. -/
theorem ranked_score : ranked (score (re y)) = ranked (re y) := by
  refine ranked_congr _ _ fun k k' => ?_
  rw [score_coe, score_coe, EReal.coe_lt_coe_iff]
  unfold re
  rw [EReal.coe_lt_coe_iff, mul_lt_mul_iff_of_pos_right (one_div_pos.mpr (expSum_pos y _)), Real.exp_lt_exp, sub_lt_sub_iff_right]

/-- A quotient of quotients. -/
theorem div_div_same (a : Fin 8 → ℝ) (S : ℝ) (hS : 0 < S) (ha : 0 < ∑ s, a s) (r : Fin 8) :
    Ideal.div ((a r * (1 / S) : ℝ) : EReal) (∑ s, ((a s * (1 / S) : ℝ) : EReal))
      = Ideal.div ((a r : ℝ) : EReal) (∑ s, ((a s : ℝ) : EReal)) := by
  rw [← coe_sum, ← coe_sum, ← Finset.sum_mul, Ideal.div_coe (ne_of_gt (mul_pos ha (one_div_pos.mpr hS))),
    Ideal.div_coe (ne_of_gt ha), ← EReal.coe_mul, ← EReal.coe_mul, EReal.coe_eq_coe_iff]
  have h1 := ne_of_gt hS
  have h2 := ne_of_gt ha
  field_simp

/-- The first pick is the first-ranked expert. -/
theorem pick_zero (x : Fin 64 → EReal) : pick x 0 = ranked x 0 := by
  unfold pick
  congr 1

/-- The normalised top scores are the weights. -/
theorem normalised (r : Fin 8) :
    Ideal.div (score (re y) (pick (re y) r)) (∑ s : Fin 8, score (re y) (pick (re y) s)) = weight (re y) r := by
  unfold weight
  simp only [score_coe]
  rw [pick_zero]
  have hS := expSum_pos y (y (ranked (re y) 0))
  generalize ranked (re y) 0 = b at hS ⊢
  generalize pick (re y) = p
  have hT : 0 < ∑ s : Fin 8, Real.exp (y (p s) - y b) :=
    Finset.sum_pos (fun k _ => Real.exp_pos _) ⟨0, Finset.mem_univ _⟩
  refine (div_div_same (fun s => Real.exp (y (p s) - y b)) _ hS hT r).trans ?_
  show _ = Ideal.div (Ideal.exp ((y (p r) : EReal) - (y b : EReal))) (∑ s : Fin 8, Ideal.exp ((y (p s) : EReal) - (y b : EReal)))
  simp only [exp_sub_coe]

end Cert.Gate

end
-- ==== Proof.Ref.lean ====
/-
  What the reference computes: softmax over the 64 logits, the eight greatest by a stable sort, and those divided by
  their sum — read at a token, in the terms of Softmax.
-/
module

public import proofs.«01_k».proof.Proof.Softmax
public import proofs.«01_k».proof.Proof.Gen.ReferenceIdeal.Run
public import Idealize.ShloMosaic.Lib.Pipeline.Value
public import Idealize.ShloMosaic.Lib.IdealHost
public import Idealize.ShloMosaic.Lib.StackMember
public import Idealize.ShloMosaic.Lib.ValueLayout
public import Idealize.ShloMosaic.Lib.KernelVsHost
public import Idealize.ShloMosaic.PureOps.Ideal.Laws

@[expose] public section

set_option maxRecDepth 16384

noncomputable section

namespace Cert.Gate.Ref

open Idealize.ShloMosaic Idealize.ShloMosaic.TcCoe Idealize.ShloMosaic.ValueIdx Idealize.SL.Sem
open Idealize.ShloMosaic.StackMember Cert.ReferenceIdeal Cert.ReferenceIdeal.Gen Cert.Gate

/-- The logits. -/
def logits (A : FVec Ideal S8192x4096 .f32) (W : FVec Ideal S64x4096 .f32) : FVec Ideal S8192x64 .f32 :=
  Host.dotGeneral dot_S8192x4096_S4096x64_S8192x64_1_0_0_1_n_n none A
    (transpose S4096x64 [1, 0] W transposes_S64x4096_S4096x64_1_0)

/-- A vector of tokens spread over the experts. -/
def spread (v : FVec Ideal S8192 .f32) : FVec Ideal S8192x64 .f32 :=
  broadcastInDim S8192x64 ![0, 1] bcast_S8192x1_S8192x64_0_1 (broadcastInDim S8192x1 ![0] bcast_S8192_S8192x1_0 v)

/-- A vector of tokens spread over the eight ranks. -/
def spread8 (v : FVec Ideal S8192 .f32) : FVec Ideal S8192x8 .f32 :=
  broadcastInDim S8192x8 ![0, 1] bcast_S8192x1_S8192x8_0_1 (broadcastInDim S8192x1 ![0] bcast_S8192_S8192x1_0 v)

/-- Every token's greatest logit. -/
def maxes (L : FVec Ideal S8192x64 .f32) : FVec Ideal S8192 .f32 :=
  maximumf (broadcastInDim S8192 ![] bcast_S_S8192 (constant S_ .f32 0xFF800000#32))
    (Host.reduce FloatOps.maximumf L (constant S_ .f32 0xFF800000#32) reducesTo_S8192x64_S8192_d1 h_S_)

/-- The exponentials. -/
def exps (L : FVec Ideal S8192x64 .f32) : FVec Ideal S8192x64 .f32 := Host.exp (subf L (spread (maxes L)))

/-- The softmax. -/
def probs (L : FVec Ideal S8192x64 .f32) : FVec Ideal S8192x64 .f32 :=
  Host.divf (exps L) (spread (Host.reduceAdd (exps L) (constant S_ .f32 0x00000000#32) reducesTo_S8192x64_S8192_d1 h_S_))

/-- The eight greatest and their positions. -/
def tops (p : FVec Ideal S8192x64 .f32) : FVec Ideal S8192x8 .f32 × IVec S8192x8 32 :=
  Host.topK S8192x8 1 (FloatOps.cmpfTotal .gt) p sliceFits_S8192x64_S8192x8

/-- The eight greatest divided by their sum. -/
def norm (v : FVec Ideal S8192x8 .f32) : FVec Ideal S8192x8 .f32 :=
  Host.divf v (spread8 (Host.reduceAdd v (constant S_ .f32 0x00000000#32) reducesTo_S8192x8_S8192_d1 h_S_))

/-- Spread over the experts, read. -/
theorem spread_apply (v : FVec Ideal S8192 .f32) (t : Fin 8192) (n : Fin 64) : spread v (ix2 t n) = v (ix1 t) := by
  unfold spread
  refine (broadcastInDim_apply (s := S8192x1) (t := S8192x64) ![0, 1] _ _ (ix2 t n) (ix2 t 0) fun a => ?_).trans ?_
  · match a with
    | ⟨0, _⟩ => rfl
    | ⟨1, _⟩ => rfl
  · refine broadcastInDim_apply (s := S8192) (t := S8192x1) ![0] _ v (ix2 t 0) (ix1 t) fun a => ?_
    match a with
    | ⟨0, _⟩ => rfl

/-- Spread over the ranks, read. -/
theorem spread8_apply (v : FVec Ideal S8192 .f32) (t : Fin 8192) (r : Fin 8) : spread8 v (ix2 t r) = v (ix1 t) := by
  unfold spread8
  refine (broadcastInDim_apply (s := S8192x1) (t := S8192x8) ![0, 1] _ _ (ix2 t r) (ix2 t 0) fun a => ?_).trans ?_
  · match a with
    | ⟨0, _⟩ => rfl
    | ⟨1, _⟩ => rfl
  · refine broadcastInDim_apply (s := S8192) (t := S8192x1) ![0] _ v (ix2 t 0) (ix1 t) fun a => ?_
    match a with
    | ⟨0, _⟩ => rfl

/-- Token `t`'s row. -/
def row (p : FVec Ideal S8192x64 .f32) (t : Fin 8192) : Fin 64 → EReal := fun n => p (ix2 t n)

theorem row_apply (p : FVec Ideal S8192x64 .f32) (t : Fin 8192) (n : Fin 64) : row p t n = p (ix2 t n) := rfl

/-- The shape facts with the reduced axis named. -/
theorem red64 : S8192x64.Reduces [1] S8192 := by decide
theorem red8 : S8192x8.Reduces [1] S8192 := by decide

/-- The constant of the maximum is `⊥`. -/
theorem ofBits_neg_inf : (FloatOps.ofBits (F := Ideal) .f32 0xFF800000#32 : EReal) = ⊥ := by
  show Ideal.ofBits .f32 0xFF800000#32 = ⊥
  simp [Ideal.ofBits, Ideal.ieee]

/-- A maximum of two vectors, read. -/
theorem maximumf_at {s : Shape} (x y : FVec Ideal s .f32) (i : s.Idx) : maximumf x y i = (max (x i) (y i) : EReal) := rfl

/-- A token's greatest logit, read. -/
theorem maxes_apply (L : FVec Ideal S8192x64 .f32) (t : Fin 8192) : maxes L (ix1 t) = top (row L t) := by
  have h1 : Host.reduce (FloatOps.maximumf (F := Ideal) (φ := .f32)) L (constant S_ .f32 0xFF800000#32) reducesTo_S8192x64_S8192_d1 h_S_ (ix1 t)
      = top (row L t) := by
    rw [hostReduce_maximumf_eq_multiReduction (s := S8192x64) (t := S8192) L 0xFF800000#32 reducesTo_S8192x64_S8192_d1 h_S_ red64 (.inl rfl) rfl]
    refine (Ideal.multiReduction_maximumf_single (s := S8192x64) (t := S8192) (a := (1 : Fin 2)) L 0xFF800000#32 red64 (.inl rfl) rfl (ix1 t)).trans ?_
    rw [ofBits_neg_inf]
    unfold top
    congr 1
    funext k
    show L _ = L _
    congr 1
    funext a
    match a with
    | ⟨0, _⟩ => rfl
    | ⟨1, _⟩ => rfl
  have h2 : broadcastInDim S8192 ![] bcast_S_S8192 (constant (F := Ideal) S_ .f32 0xFF800000#32) (ix1 t) = (⊥ : EReal) :=
    (broadcastInDim_scalar_apply bcast_S_S8192 _ (ix1 t)).trans ofBits_neg_inf
  unfold maxes
  rw [maximumf_at, h2, h1]
  exact max_eq_right bot_le

/-- A sum over the experts, read. -/
theorem sum64_apply (p : FVec Ideal S8192x64 .f32) (t : Fin 8192) :
    Host.reduceAdd p (constant S_ .f32 0x00000000#32) reducesTo_S8192x64_S8192_d1 h_S_ (ix1 t) = ∑ k : Fin 64, row p t k := by
  refine (Ideal.hostReduceAdd_single (s := S8192x64) (t := S8192) (a := (1 : Fin 2)) reducesTo_S8192x64_S8192_d1 red64 p
    (Ideal.ofBits .f32 0x00000000#32) (ix1 t)).trans ?_
  rw [Ideal.ofBits_zero_f32, zero_add]
  refine Finset.sum_congr rfl fun k _ => ?_
  show p _ = p _
  congr 1
  funext a
  match a with
  | ⟨0, _⟩ => rfl
  | ⟨1, _⟩ => rfl

/-- A sum over the ranks, read. -/
theorem sum8_apply (p : FVec Ideal S8192x8 .f32) (t : Fin 8192) :
    Host.reduceAdd p (constant S_ .f32 0x00000000#32) reducesTo_S8192x8_S8192_d1 h_S_ (ix1 t) = ∑ k : Fin 8, p (ix2 t k) := by
  refine (Ideal.hostReduceAdd_single (s := S8192x8) (t := S8192) (a := (1 : Fin 2)) reducesTo_S8192x8_S8192_d1 red8 p
    (Ideal.ofBits .f32 0x00000000#32) (ix1 t)).trans ?_
  rw [Ideal.ofBits_zero_f32, zero_add]
  refine Finset.sum_congr rfl fun k _ => ?_
  show p _ = p _
  congr 1
  funext a
  match a with
  | ⟨0, _⟩ => rfl
  | ⟨1, _⟩ => rfl

/-- An exponential, read. -/
theorem exps_apply (L : FVec Ideal S8192x64 .f32) (t : Fin 8192) (n : Fin 64) :
    exps L (ix2 t n) = Ideal.exp (row L t n - top (row L t)) := by
  have h : exps L (ix2 t n) = Ideal.exp (L (ix2 t n) - spread (maxes L) (ix2 t n)) := rfl
  rw [h, spread_apply, maxes_apply, row_apply]

/-- The softmax, read. -/
theorem probs_apply (L : FVec Ideal S8192x64 .f32) (t : Fin 8192) (n : Fin 64) : probs L (ix2 t n) = score (row L t) n := by
  unfold probs score
  rw [hostDivf_apply, spread_apply, sum64_apply, exps_apply]
  refine congrArg (Ideal.div _) (Finset.sum_congr rfl fun k _ => exps_apply L t k)

/-- The softmax of a token. -/
theorem probs_row (L : FVec Ideal S8192x64 .f32) (t : Fin 8192) : row (probs L) t = score (row L t) :=
  funext fun n => probs_apply L t n

section Sorting

variable {m n q : Nat}

/-- Replacing an index's second coordinate. -/
theorem along_snd (a : Fin m) (b c : Fin n) : Shape.Idx.along (s := (⟨2, ![m, n]⟩ : Shape)) (ix2 a b) (1 : Fin 2) c = ix2 a c := by
  funext i
  match i with
  | ⟨0, _⟩ => rfl
  | ⟨1, _⟩ => rfl

/-- The permutation the sort finds in one row. -/
theorem sorted_along (p : FVec Ideal ⟨2, ![m, n]⟩ .f32) (t : Fin m) (b : Fin n) :
    sortedFrom (fun k k' : Fin n => (FloatOps.cmpfTotal (F := Ideal) (φ := .f32) .gt
      (p (Shape.Idx.along (s := (⟨2, ![m, n]⟩ : Shape)) (ix2 t b) (1 : Fin 2) k))
      (p (Shape.Idx.along (s := (⟨2, ![m, n]⟩ : Shape)) (ix2 t b) (1 : Fin 2) k'))) == 1#1)
      = sortedFrom fun k k' : Fin n => decide ((p (ix2 t k') : EReal) < p (ix2 t k)) := by
  congr 1
  funext k k'
  have hk := along_snd t b k
  have hk' := along_snd t b k'
  have e : (FloatOps.cmpfTotal (F := Ideal) (φ := .f32) .gt
      (p (Shape.Idx.along (s := (⟨2, ![m, n]⟩ : Shape)) (ix2 t b) (1 : Fin 2) k))
      (p (Shape.Idx.along (s := (⟨2, ![m, n]⟩ : Shape)) (ix2 t b) (1 : Fin 2) k')))
      = BitVec.ofBool (decide ((p (ix2 t k') : EReal) < p (ix2 t k))) := by
    erw [hk, hk']
    rfl
  erw [e]
  cases decide ((p (ix2 t k') : EReal) < p (ix2 t k)) <;> rfl

/-- The values a top-`q` of the rows puts first. -/
theorem topK_fst (p : FVec Ideal ⟨2, ![m, n]⟩ .f32) (h : (⟨2, ![m, n]⟩ : Shape).Slices (fun _ => 0) ⟨2, ![m, q]⟩) (hq : q ≤ n)
    (t : Fin m) (r : Fin q) :
    (Host.topK (⟨2, ![m, q]⟩ : Shape) 1 (FloatOps.cmpfTotal (F := Ideal) (φ := .f32) .gt) p h).1 (ix2 t r)
      = p (ix2 t (sortedFrom (fun k k' : Fin n => decide ((p (ix2 t k') : EReal) < p (ix2 t k))) (r.castLE hq))) := by
  unfold Host.topK
  dsimp only
  refine (extractStridedSlice_apply (s := (⟨2, ![m, n]⟩ : Shape)) (t := (⟨2, ![m, q]⟩ : Shape)) (fun _ => 0) _ h (ix2 t r)
      (ix2 t (r.castLE hq)) fun a => ?_).trans ?_
  · match a with
    | ⟨0, _⟩ => exact (Nat.zero_add _).symm
    | ⟨1, _⟩ => exact (Nat.zero_add _).symm
  · unfold Host.sort2
    rw [dif_pos (by decide : 1 < 2)]
    have e := sorted_along p t (r.castLE hq)
    refine (congrArg p (along_snd t (r.castLE hq) _)).trans ?_
    exact congrArg (fun σ : Fin n → Fin n => p (ix2 t (σ (r.castLE hq)))) e

/-- The positions a top-`q` of the rows puts first. -/
theorem topK_snd (p : FVec Ideal ⟨2, ![m, n]⟩ .f32) (h : (⟨2, ![m, n]⟩ : Shape).Slices (fun _ => 0) ⟨2, ![m, q]⟩) (hq : q ≤ n)
    (t : Fin m) (r : Fin q) :
    (Host.topK (⟨2, ![m, q]⟩ : Shape) 1 (FloatOps.cmpfTotal (F := Ideal) (φ := .f32) .gt) p h).2 (ix2 t r)
      = BitVec.ofNat 32 (sortedFrom (fun k k' : Fin n => decide ((p (ix2 t k') : EReal) < p (ix2 t k))) (r.castLE hq)).val := by
  unfold Host.topK
  dsimp only
  refine (extractStridedSlice_apply (s := (⟨2, ![m, n]⟩ : Shape)) (t := (⟨2, ![m, q]⟩ : Shape)) (fun _ => 0) _ h (ix2 t r)
      (ix2 t (r.castLE hq)) fun a => ?_).trans ?_
  · match a with
    | ⟨0, _⟩ => exact (Nat.zero_add _).symm
    | ⟨1, _⟩ => exact (Nat.zero_add _).symm
  · unfold Host.sort2
    rw [dif_pos (by decide : 1 < 2)]
    have e := sorted_along p t (r.castLE hq)
    refine (congrArg (iotaInDim (⟨2, ![m, n]⟩ : Shape) 32 (1 : Fin 2)) (along_snd t (r.castLE hq) _)).trans ?_
    exact congrArg (fun σ : Fin n → Fin n => BitVec.ofNat 32 (σ (r.castLE hq)).val) e

end Sorting

/-- The values the sort puts first. -/
theorem tops_fst (p : FVec Ideal S8192x64 .f32) (t : Fin 8192) (r : Fin 8) :
    (tops p).1 (ix2 t r) = row p t (pick (row p t) r) := by
  unfold tops pick ranked above row
  exact topK_fst (m := 8192) (n := 64) (q := 8) p sliceFits_S8192x64_S8192x8 (by decide) t r

/-- The positions the sort puts first. -/
theorem tops_snd (p : FVec Ideal S8192x64 .f32) (t : Fin 8192) (r : Fin 8) :
    (tops p).2 (ix2 t r) = BitVec.ofNat 32 (pick (row p t) r).val := by
  unfold tops pick ranked above row
  exact topK_snd (m := 8192) (n := 64) (q := 8) p sliceFits_S8192x64_S8192x8 (by decide) t r

/-- A logit, read. -/
theorem logits_row (A : FVec Ideal S8192x4096 .f32) (W : FVec Ideal S64x4096 .f32) (t : Fin 8192) :
    row (logits A W) t = logit A W t := by
  funext n
  rw [row_apply]
  unfold logits logit
  refine (dotGeneral_plain_apply none A (transpose S4096x64 [1, 0] W transposes_S64x4096_S4096x64_1_0) t n).trans ?_
  refine Finset.sum_congr rfl fun k _ => ?_
  rw [mul_comm]
  exact congrArg (· * A (ix2 t k)) (transpose_ix2_apply W transposes_S64x4096_S4096x64_1_0 k n)

/-- On real logits the reference's choice is `experts`. -/
theorem indices_eq (A : FVec Ideal S8192x4096 .f32) (W : FVec Ideal S64x4096 .f32)
    (hr : ∀ t, ∃ y : Fin 64 → ℝ, logit A W t = re y) : (tops (probs (logits A W))).2 = experts A W := by
  funext i
  obtain ⟨t, r, rfl⟩ : ∃ t r, i = ix2 t r := ⟨i 0, i 1, eq_ix2 i⟩
  rw [tops_snd, probs_row, logits_row]
  obtain ⟨y, hy⟩ := hr t
  show BitVec.ofNat 32 (pick (score (logit A W t)) r).val = BitVec.ofNat 32 (pick (logit A W t) r).val
  unfold pick
  rw [hy, ranked_score]

/-- On real logits the reference's weights are `weights`. -/
theorem values_eq (A : FVec Ideal S8192x4096 .f32) (W : FVec Ideal S64x4096 .f32)
    (hr : ∀ t, ∃ y : Fin 64 → ℝ, logit A W t = re y) : norm (tops (probs (logits A W))).1 = weights A W := by
  funext i
  obtain ⟨t, r, rfl⟩ : ∃ t r, i = ix2 t r := ⟨i 0, i 1, eq_ix2 i⟩
  unfold norm
  rw [hostDivf_apply, spread8_apply, sum8_apply]
  simp only [tops_fst]
  rw [probs_row, logits_row]
  obtain ⟨y, hy⟩ := hr t
  show _ = weight (logit A W t) r
  rw [hy, ← normalised]
  unfold pick
  rw [ranked_score]

/-- The activations' rows the reference is given. -/
def rows (m : (ℓ : Loc nD τ sig) → Buf (Elt Ideal) ℓ) (c : Dev nD) : FVec Ideal S8192x4096 .f32 :=
  shapeCast S8192x4096 (m ((c.tc : Thread nD τ).loc main_arg0)) shapeCasts_S2x4096x4096_S8192x4096

/-- The weight matrix the reference is given. -/
def wts (m : (ℓ : Loc nD τ sig) → Buf (Elt Ideal) ℓ) (c : Dev nD) : FVec Ideal S64x4096 .f32 :=
  m ((c.tc : Thread nD τ).loc main_arg1)

/-- On real logits every run of the reference ends with `experts` and `weights`, its arguments unchanged. -/
theorem run (m : (ℓ : Loc nD τ sig) → Buf (Elt Ideal) ℓ) (ρ : Dev nD → PrngReg)
    (hr : ∀ c t, ∃ y : Fin 64 → ℝ, logit (rows m c) (wts m c) t = re y) :
    θ_run defs (onTc (τ := τ) (main (F := Ideal))) ⟨m, fun _ => 0, ρ⟩ fun r => ∀ c : Dev nD,
      r.2.mem ((c.tc : Thread nD τ).loc main_indices) = experts (rows m c) (wts m c)
      ∧ r.2.mem ((c.tc : Thread nD τ).loc main_v17) = weights (rows m c) (wts m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (indices_eq (rows m c) (wts m c) (hr c)), (h c).2.1.trans (values_eq (rows m c) (wts m c) (hr c)), (h c).2.2⟩)
    (Cert.ReferenceIdeal.Value.run (F := Ideal) m ρ)

end Cert.Gate.Ref

end
-- ==== Proof.Finite.lean ====
/-
  What the precondition gives: every element of both arguments is a real number, so every logit is.
-/
module

public import proofs.«01_k».proof.Proof.Softmax
public import proofs.«01_k».proof.Proof.Gen.Pre_finite
public import Idealize.ShloMosaic.Lib.ReduceAll
public import Idealize.ShloMosaic.Lib.IdealHost
public import Idealize.ShloMosaic.Lib.StableHlo.Run
public import Idealize.ShloMosaic.Lib.Pipeline.Value
public import Idealize.ShloMosaic.PureOps.Ideal.Laws

@[expose] public section

noncomputable section

namespace Cert.Gate

open Idealize.ShloMosaic Idealize.ShloMosaic.ValueIdx

/-- The constant the magnitudes are compared with is `⊤`. -/
theorem ofBits_pos_inf : (FloatOps.ofBits (F := Ideal) .f32 0x7F800000#32 : EReal) = ⊤ := by
  show Ideal.ofBits .f32 0x7F800000#32 = ⊤
  simp [Ideal.ofBits, Ideal.ieee]

/-- A magnitude below `⊤` is a real number's. -/
theorem real_of_abs_lt {x : EReal} (h : max x (-x) < ⊤) : ∃ r : ℝ, x = r := by
  induction x with
  | bot => simp at h
  | top => simp at h
  | coe r => exact ⟨r, rfl⟩

/-- One comparison, read. -/
theorem real_of_cmp {s : Shape} (h : Cert.Pre_finite.S_.BroadcastsInDim s (![] : Fin 0 → Fin s.rank)) (x : FVec Ideal s .f32) (i : s.Idx)
    (e : cmpf .olt (Host.absf x) (broadcastInDim s ![] h (constant (F := Ideal) Cert.Pre_finite.S_ .f32 0x7F800000#32)) i = 1#1) :
    ∃ r : ℝ, x i = (r : EReal) := by
  have hb : broadcastInDim s ![] h (constant (F := Ideal) Cert.Pre_finite.S_ .f32 0x7F800000#32) i = (⊤ : EReal) :=
    (broadcastInDim_scalar_apply h _ i).trans ofBits_pos_inf
  have e' : BitVec.ofBool (decide (max (x i) (-(x i)) < (broadcastInDim s ![] h (constant (F := Ideal) Cert.Pre_finite.S_ .f32 0x7F800000#32) i : EReal))) = 1#1 := e
  rw [hb] at e'
  apply real_of_abs_lt
  by_contra hn
  rw [decide_eq_false hn] at e'
  exact absurd e' (by decide)

instance : Subsingleton Cert.Pre_finite.S_.Idx := ⟨fun a b => funext fun i => i.elim0⟩

/-- Under the precondition every element of both arguments is a real number. -/
theorem real_of_pre (a : FVec Ideal Cert.Pre_finite.S2x4096x4096 .f32) (w : FVec Ideal Cert.Pre_finite.S64x4096 .f32)
    (h : Cert.Pre_finite.fn (F := Ideal) a w = fun _ => 1#1) :
    (∀ i, ∃ r : ℝ, a i = (r : EReal)) ∧ (∀ i, ∃ r : ℝ, w i = (r : EReal)) := by
  have h0 := congrFun h ix0
  obtain ⟨h1, h2⟩ := IntOp.andi_eq_one.1 h0
  exact ⟨fun i => real_of_cmp _ a i (Host.reduce_andi_all _ _ _ _ _ h1 i), fun i => real_of_cmp _ w i (Host.reduce_andi_all _ _ _ _ _ h2 i)⟩

/-- A sum of products of real numbers is real. -/
theorem real_dot (A : FVec Ideal ⟨2, ![8192, 4096]⟩ .f32) (W : FVec Ideal ⟨2, ![64, 4096]⟩ .f32)
    (hA : ∀ i, ∃ r : ℝ, A i = (r : EReal)) (hW : ∀ i, ∃ r : ℝ, W i = (r : EReal)) (t : Fin 8192) :
    ∃ y : Fin 64 → ℝ, logit A W t = re y := by
  choose f hf using hA
  choose g hg using hW
  refine ⟨fun n => ∑ k : Fin 4096, g (ix2 n k) * f (ix2 t k), funext fun n => ?_⟩
  unfold logit re
  simp only [hf, hg]
  rw [coe_sum]
  exact Finset.sum_congr rfl fun k _ => (EReal.coe_mul _ _).symm

/-- A real logit is not `⊥`. -/
theorem proper_of_real (A : FVec Ideal ⟨2, ![8192, 4096]⟩ .f32) (W : FVec Ideal ⟨2, ![64, 4096]⟩ .f32)
    (h : ∀ t, ∃ y : Fin 64 → ℝ, logit A W t = re y) (t : Fin 8192) (n : Fin 64) : logit A W t n ≠ ⊥ := by
  obtain ⟨y, hy⟩ := h t
  rw [hy]
  exact EReal.coe_ne_bot _

end Cert.Gate

end
-- ==== Proof.Near.lean ====
/-
  The constant added to the reference's denominator: with it the weights move by at most 64 times the constant, so the kernel's
  results meet `near`, whose denominator has it.
-/
module

public import proofs.«01_k».proof.Proof.Ref
public import proofs.«01_k».proof.Proof.Gen.Post_near
public import Idealize.ShloMosaic.Lib.ReduceAll

@[expose] public section

set_option maxRecDepth 16384

noncomputable section

namespace Cert.Gate.Near

open Idealize.ShloMosaic Idealize.ShloMosaic.ValueIdx Idealize.ShloMosaic.StackMember Cert.Gate Cert.Gate.Ref

/-- The constant added to the denominator, a real number. -/
def eps : ℝ := 12379400 / 2 ^ 90

/-- The bound on the distance, a real number. -/
def bound : ℝ := 9671407 / 2 ^ 83

theorem eps_nonneg : 0 ≤ eps := by unfold eps; positivity

theorem eps_bound : 64 * eps ≤ bound := by unfold eps bound; norm_num

/-- The words the two constants are printed as. -/
theorem ofBits_eps : (FloatOps.ofBits (F := Ideal) .f32 0x1E3CE508#32 : EReal) = (eps : EReal) := by
  show Ideal.ofBits .f32 0x1E3CE508#32 = _
  simp [Ideal.ofBits, Ideal.ieee, eps, -EReal.coe_mul]; norm_num

theorem ofBits_bound : (FloatOps.ofBits (F := Ideal) .f32 0x219392EF#32 : EReal) = (bound : EReal) := by
  show Ideal.ofBits .f32 0x219392EF#32 = _
  simp [Ideal.ofBits, Ideal.ieee, bound, -EReal.coe_mul]; norm_num

/-- Adding `e` to a denominator that is at least 1/64 and at least the numerator moves the quotient by at most `64 e`. -/
theorem shift_le (a S e : ℝ) (ha : 0 ≤ a) (haS : a ≤ S) (hS : 1 / 64 ≤ S) (he : 0 ≤ e) :
    |a * (1 / S) - a * (1 / (S + e))| ≤ 64 * e := by
  have hS0 : 0 < S := by linarith
  have hSe : 0 < S + e := by linarith
  have h : a * (1 / S) - a * (1 / (S + e)) = (a / (S + e)) * (e / S) := by
    field_simp
    ring
  have h1 : a / (S + e) ≤ 1 := (div_le_one hSe).mpr (by linarith)
  have h2 : e / S ≤ 64 * e := by
    rw [div_le_iff₀ hS0]
    nlinarith
  have h3 : 0 ≤ e / S := by positivity
  have h4 : 0 ≤ a / (S + e) := by positivity
  rw [h, abs_of_nonneg (mul_nonneg h4 h3)]
  nlinarith

variable (y : Fin 64 → ℝ)

/-- The exponentials of 64 values less their greatest sum to at most 64. -/
theorem expSum_le : expSum y (y (ranked (re y) 0)) ≤ 64 := by
  unfold expSum
  have h : ∀ k ∈ (Finset.univ : Finset (Fin 64)), Real.exp (y k - y (ranked (re y) 0)) ≤ 1 := fun k _ => by
    obtain ⟨i, hi⟩ := ranked_surj (re y) k
    have h1 : re y (ranked (re y) i) ≤ re y (ranked (re y) 0) := ranked_le (re y) (Fin.zero_le i)
    rw [hi] at h1
    have h2 : y k ≤ y (ranked (re y) 0) := EReal.coe_le_coe_iff.mp h1
    rw [← Real.exp_zero]
    exact Real.exp_le_exp.mpr (by linarith)
  refine (Finset.sum_le_sum h).trans ?_
  simp

/-- A weight and the same score divided by the shifted sum are real numbers at most `64 e` apart. -/
theorem weight_near (e : ℝ) (he : 0 ≤ e) (r : Fin 8) :
    ∃ d : ℝ, weight (re y) r - Ideal.div (score (re y) (pick (re y) r)) ((∑ s : Fin 8, score (re y) (pick (re y) s)) + (e : EReal))
      = (d : EReal) ∧ |d| ≤ 64 * e := by
  rw [← normalised]
  have hZ := expSum_le y
  have hZ0 := expSum_pos y (y (ranked (re y) 0))
  have hp := pick_zero (re y)
  simp only [score_coe]
  generalize hb : ranked (re y) 0 = b at hZ hZ0 hp ⊢
  generalize pick (re y) = p at hp ⊢
  generalize expSum y (y b) = Z at hZ hZ0 ⊢
  set a : Fin 8 → ℝ := fun s => Real.exp (y (p s) - y b) * (1 / Z) with hadef
  have ha : ∀ s, 0 ≤ a s := fun s => by rw [hadef]; positivity
  have hle : ∀ s, a s ≤ ∑ k, a k := fun s => Finset.single_le_sum (fun k _ => ha k) (Finset.mem_univ s)
  have h0 : 1 / 64 ≤ a 0 := by
    rw [hadef]
    show 1 / 64 ≤ Real.exp (y (p 0) - y b) * (1 / Z)
    rw [hp, sub_self, Real.exp_zero, one_mul]
    exact one_div_le_one_div_of_le hZ0 hZ
  have hS : 1 / 64 ≤ ∑ k, a k := h0.trans (hle 0)
  have hS0 : 0 < ∑ k, a k := lt_of_lt_of_le (by norm_num) hS
  refine ⟨a r * (1 / ∑ k, a k) - a r * (1 / ((∑ k, a k) + e)), ?_, shift_le _ _ e (ha r) (hle r) hS he⟩
  show Ideal.div (a r : EReal) (∑ s, (a s : EReal)) - Ideal.div (a r : EReal) ((∑ s, (a s : EReal)) + (e : EReal)) = _
  rw [← coe_sum, ← EReal.coe_add, Ideal.div_coe (ne_of_gt hS0), Ideal.div_coe (ne_of_gt (by linarith)), ← EReal.coe_mul, ← EReal.coe_mul,
    ← EReal.coe_sub]

open Cert.Post_near Cert.Post_near.Gen

/-- The denominator with the constant added. -/
def den (v : FVec Ideal S8192x8 .f32) : FVec Ideal S8192x1 .f32 :=
  addf (broadcastInDim S8192x1 ![0] bcast_S8192_S8192x1_0 (Host.reduceAdd v (constant S_ .f32 0x00000000#32) reducesTo_S8192x8_S8192_d1 h_S_))
    (broadcastInDim S8192x1 ![] bcast_S_S8192x1 (constant S_ .f32 0x1E3CE508#32))

/-- The eight greatest divided by that denominator. -/
def shifted (v : FVec Ideal S8192x8 .f32) : FVec Ideal S8192x8 .f32 :=
  Host.divf v (broadcastInDim S8192x8 ![0, 1] bcast_S8192x1_S8192x8_0_1 (den v))

/-- A sum of two vectors, read. -/
theorem addf_at {s : Shape} (x z : FVec Ideal s .f32) (i : s.Idx) : addf x z i = (x i + z i : EReal) := rfl

/-- The denominator, read. -/
theorem den_apply (v : FVec Ideal S8192x8 .f32) (t : Fin 8192) :
    den v (ix2 t 0) = (∑ s : Fin 8, v (ix2 t s) : EReal) + (eps : EReal) := by
  have h1 : broadcastInDim S8192x1 ![0] bcast_S8192_S8192x1_0
      (Host.reduceAdd v (constant S_ .f32 0x00000000#32) reducesTo_S8192x8_S8192_d1 h_S_) (ix2 t 0) = (∑ s : Fin 8, v (ix2 t s) : EReal) := by
    refine (broadcastInDim_apply (s := S8192) (t := S8192x1) ![0] _ _ (ix2 t 0) (ix1 t) fun a => ?_).trans (sum8_apply v t)
    match a with
    | ⟨0, _⟩ => rfl
  have h2 : broadcastInDim S8192x1 ![] bcast_S_S8192x1 (constant (F := Ideal) S_ .f32 0x1E3CE508#32) (ix2 t 0) = (eps : EReal) :=
    (broadcastInDim_scalar_apply bcast_S_S8192x1 _ (ix2 t 0)).trans ofBits_eps
  unfold den
  rw [addf_at, h1, h2]

/-- The quotient, read. -/
theorem shifted_apply (v : FVec Ideal S8192x8 .f32) (t : Fin 8192) (r : Fin 8) :
    shifted v (ix2 t r) = Ideal.div (v (ix2 t r)) ((∑ s : Fin 8, v (ix2 t s) : EReal) + (eps : EReal)) := by
  unfold shifted
  rw [hostDivf_apply]
  refine congrArg (Ideal.div _) ?_
  refine (broadcastInDim_apply (s := S8192x1) (t := S8192x8) ![0, 1] _ _ (ix2 t r) (ix2 t 0) fun a => ?_).trans (den_apply v t)
  match a with
  | ⟨0, _⟩ => rfl
  | ⟨1, _⟩ => rfl

/-- The comparison of the weights. -/
def closeV (g v : FVec Ideal S8192x8 .f32) : IVec S8192x8 1 :=
  cmpf .ole (Host.absf (subf g v)) (broadcastInDim S8192x8 ![] bcast_S_S8192x8 (constant (F := Ideal) S_ .f32 0x219392EF#32))

/-- `near` as its two comparisons. -/
theorem fn_eq (a : FVec Ideal S2x4096x4096 .f32) (w : FVec Ideal S64x4096 .f32) (i : IVec S8192x8 32) (g : FVec Ideal S8192x8 .f32) :
    Cert.Post_near.fn (F := Ideal) a w i g
      = andi (Host.reduce IntOp.andi
            (cmpi .eq i (tops (probs (logits (shapeCast S8192x4096 a shapeCasts_S2x4096x4096_S8192x4096) w))).2)
            (constantI S_ 1 1#1) reducesTo_S8192x8_S_d0_1 h_S_)
          (Host.reduce IntOp.andi
            (closeV g (shifted (tops (probs (logits (shapeCast S8192x4096 a shapeCasts_S2x4096x4096_S8192x4096) w))).1))
            (constantI S_ 1 1#1) reducesTo_S8192x8_S_d0_1 h_S_) := rfl

/-- A word compares equal with itself. -/
theorem cmpi_self {s : Shape} (i : IVec s 32) (j : s.Idx) : cmpi .eq i i j = 1#1 := by
  show IntOp.cmpi .eq (i j) (i j) = 1#1
  simp [IntOp.cmpi]

/-- A difference that is a real number within the bound passes the comparison. -/
theorem closeV_one (g v : FVec Ideal S8192x8 .f32) (j : S8192x8.Idx)
    (h : ∃ d : ℝ, (g j - v j : EReal) = (d : EReal) ∧ |d| ≤ 64 * eps) : closeV g v j = 1#1 := by
  obtain ⟨d, hd, hle⟩ := h
  have hb : broadcastInDim S8192x8 ![] bcast_S_S8192x8 (constant (F := Ideal) S_ .f32 0x219392EF#32) j = (bound : EReal) :=
    (broadcastInDim_scalar_apply bcast_S_S8192x8 _ j).trans ofBits_bound
  have e : closeV g v j = BitVec.ofBool (decide (max (g j - v j : EReal) (-(g j - v j)) ≤
    (broadcastInDim S8192x8 ![] bcast_S_S8192x8 (constant (F := Ideal) S_ .f32 0x219392EF#32) j : EReal))) := rfl
  rw [e, hb, hd, decide_eq_true]
  · rfl
  · have h2 := hle.trans eps_bound
    have h3 := abs_le.mp h2
    refine max_le (EReal.coe_le_coe_iff.mpr h3.2) ?_
    rw [← EReal.coe_neg]
    exact EReal.coe_le_coe_iff.mpr (by linarith [h3.1])

/-- On real logits `experts` and `weights` meet `near`. -/
theorem near_one (a : FVec Ideal S2x4096x4096 .f32) (w : FVec Ideal S64x4096 .f32)
    (hr : ∀ t, ∃ y : Fin 64 → ℝ, logit (shapeCast S8192x4096 a shapeCasts_S2x4096x4096_S8192x4096) w t = re y) :
    Cert.Post_near.fn (F := Ideal) a w (experts (shapeCast S8192x4096 a shapeCasts_S2x4096x4096_S8192x4096) w)
      (weights (shapeCast S8192x4096 a shapeCasts_S2x4096x4096_S8192x4096) w) = fun _ => 1#1 := by
  rw [fn_eq]
  generalize shapeCast S8192x4096 a shapeCasts_S2x4096x4096_S8192x4096 = A at hr ⊢
  rw [indices_eq A w hr]
  funext j
  refine IntOp.andi_eq_one.2 ⟨Host.reduce_andi_one _ _ _ _ j rfl fun i => cmpi_self _ i, Host.reduce_andi_one _ _ _ _ j rfl fun i => ?_⟩
  obtain ⟨t, r, rfl⟩ : ∃ t r, i = ix2 t r := ⟨i 0, i 1, eq_ix2 i⟩
  apply closeV_one
  rw [shifted_apply]
  simp only [tops_fst]
  rw [probs_row, logits_row]
  obtain ⟨y, hy⟩ := hr t
  have hw : weights A w (ix2 t r) = weight (logit A w t) r := rfl
  rw [hw, hy]
  have h := weight_near y eps eps_nonneg r
  unfold pick at h ⊢
  rw [ranked_score]
  exact h

end Cert.Gate.Near

end
-- ==== Proof.lean ====
/-
  The certificate's claim: the runs leave their arguments unchanged and every counter at zero, and on finite arguments the
  kernel and the reference end with the same experts and the same weights; with 1e-20 added to the denominator the experts
  are the same and the weights are within 1e-18.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Post_near
public import proofs.«01_k».proof.Proof.Gen.ReferenceIdeal.Run
public import proofs.«01_k».proof.Proof.KRun
public import proofs.«01_k».proof.Proof.Ref
public import proofs.«01_k».proof.Proof.Finite
public import proofs.«01_k».proof.Proof.Near
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.Gate

/-- Every run of the reference ends with its arguments unchanged and every counter at zero. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The logits of finite arguments are real. -/
theorem real_logits (m : (ℓ : Loc Cert.KernelIdeal.nD Cert.KernelIdeal.τ Cert.KernelIdeal.sig) → Buf (Elt Ideal) ℓ)
    (h : Cert.Pre_KernelIdeal_finite m) (c : Dev Cert.KernelIdeal.nD) (t : Fin 8192) :
    ∃ y : Fin 64 → ℝ, logit (KRun.rows m c) (KRun.wts m c) t = re y := by
  obtain ⟨ha, hw⟩ := real_of_pre _ _ (h c)
  exact real_dot _ _ (fun i => ha _) hw t

/-- On finite arguments the kernel's and the reference's runs end with the same experts and the same weights. -/
theorem same : Cert.algebraic_KernelIdeal_ReferenceIdeal_pre_finite := fun m ρ m' ρ' hp hag => by
  have hr := real_logits m hp
  have hA : ∀ c, Ref.rows m' c = KRun.rows m c := fun c => by
    unfold Ref.rows KRun.rows
    rw [(hag c).1]
  have hW : ∀ c, Ref.wts m' c = KRun.wts m c := fun c => (hag c).2
  refine ⟨fun c => experts (KRun.rows m c) (KRun.wts m c), fun c => weights (KRun.rows m c) (KRun.wts m c),
    KRun.run m ρ fun c => proper_of_real _ _ (hr c), ?_⟩
  refine (θ_run Cert.ReferenceIdeal.defs _ _).mono (fun r h c => ?_)
    (Ref.run m' ρ' fun c t => by rw [hA c, hW c]; exact hr c t)
  obtain ⟨h1, h2, h3⟩ := h c
  rw [hA c, hW c] at h1 h2
  exact ⟨h1, h2, h3⟩

/-- On finite arguments the kernel's results are within 1e-18 of the quotient whose denominator has 1e-20 added. -/
theorem close : Cert.holds_KernelIdeal_near_pre_finite := fun m ρ hp => by
  have hr := real_logits m hp
  refine (θ_run Cert.KernelIdeal.defs _ _).mono (fun r h c => ?_) (KRun.run m ρ fun c => proper_of_real _ _ (hr c))
  obtain ⟨h1, h2, h3, h4⟩ := h c
  refine ⟨h3, h4, ?_⟩
  rw [h1, h2]
  exact Near.near_one _ _ (hr c)

/-- The certificate's claim. -/
theorem claim : Cert.Claim :=
  ⟨Cert.Kernel.Gen.facts, Cert.KernelIdeal.Gen.facts, Cert.ReferenceIdeal.Gen.facts, Cert.Pre_finite.Gen.facts, Cert.Post_near.Gen.facts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, same, close⟩

end Cert.Proof

end
